-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2048x128 : Shape := ⟨2, ![2048, 128]⟩
abbrev S2048x2048 : Shape := ⟨2, ![2048, 2048]⟩
abbrev S2048x5 : Shape := ⟨2, ![2048, 5]⟩
abbrev S128x4x16 : Shape := ⟨3, ![128, 4, 16]⟩
abbrev S4x16 : Shape := ⟨2, ![4, 16]⟩
abbrev S64 : Shape := ⟨1, ![64]⟩
abbrev S5x64 : Shape := ⟨2, ![5, 64]⟩
abbrev S64x1x1000 : Shape := ⟨3, ![64, 1, 1000]⟩
abbrev S1x1000 : Shape := ⟨2, ![1, 1000]⟩
abbrev S1000 : Shape := ⟨1, ![1000]⟩
abbrev S_ : Shape := ⟨0, ![]⟩
abbrev S2048 : Shape := ⟨1, ![2048]⟩

class Facts : Prop where
  bcast_S_S2048x128 : S_.BroadcastsInDim S2048x128 (![] : Fin 0 → Fin S2048x128.rank)
  bcast_S_S2048x5 : S_.BroadcastsInDim S2048x5 (![] : Fin 0 → Fin S2048x5.rank)
  bcast_S_S128x4x16 : S_.BroadcastsInDim S128x4x16 (![] : Fin 0 → Fin S128x4x16.rank)
  bcast_S_S4x16 : S_.BroadcastsInDim S4x16 (![] : Fin 0 → Fin S4x16.rank)
  bcast_S_S64 : S_.BroadcastsInDim S64 (![] : Fin 0 → Fin S64.rank)
  bcast_S_S5x64 : S_.BroadcastsInDim S5x64 (![] : Fin 0 → Fin S5x64.rank)
  bcast_S_S64x1x1000 : S_.BroadcastsInDim S64x1x1000 (![] : Fin 0 → Fin S64x1x1000.rank)
  bcast_S_S1x1000 : S_.BroadcastsInDim S1x1000 (![] : Fin 0 → Fin S1x1000.rank)
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)

variable [Facts]

def fn_part2 {F : FTy → Type} [FloatOps F] (main_arg1 : FVec F S2048x2048 .f32) (main_v2 : IVec S2048x128 1) (main_v5 : IVec S2048x5 1) (main_v8 : IVec S128x4x16 1) (main_v11 : IVec S4x16 1) (main_v14 : IVec S4x16 1) (main_v17 : IVec S64 1) (main_v20 : IVec S5x64 1) (main_v23 : IVec S64 1) (main_v26 : IVec S64x1x1000 1) (main_v29 : IVec S1x1000 1) (main_v32 : IVec S1x1000 1) (main_v34 : IVec S2048x2048 1) (main_cst_11 : FVec F S_ .f32) : IVec S2048x128 1 × IVec S2048x5 1 × IVec S128x4x16 1 × IVec S4x16 1 × IVec S4x16 1 × IVec S64 1 × IVec S5x64 1 × IVec S64 1 × IVec S64x1x1000 1 × IVec S1x1000 1 × IVec S1x1000 1 × IVec S2048x2048 1 × IVec S2048 1 :=
  let main_v35 : FVec F S2048x2048 .f32 := broadcastInDim S2048x2048 ![] bcast_S_S2048x2048 main_cst_11
  let main_v36 : IVec S2048x2048 1 := cmpf .oeq main_arg1 main_v35
  let main_v37 : IVec S2048x2048 1 := ori main_v34 main_v36
  let main_cst_12 : FVec F S_ .f32 := constant S_ .f32 0xFF800000#32
  let main_v38 : FVec F S2048 .f32 := (fun x v => Host.reduce FloatOps.maximumf x v reducesTo_S2048x2048_S2048_d1 h_S_) main_arg1 main_cst_12
  let main_cst_13 : FVec F S_ .f32 := constant S_ .f32 0x3F800000#32
  let main_v39 : FVec F S2048 .f32 := broadcastInDim S2048 ![] bcast_S_S2048 main_cst_13
  let main_v40 : IVec S2048 1 := cmpf .oeq main_v38 main_v39
  (main_v2, main_v5, main_v8, main_v11, main_v14, main_v17, main_v20, main_v23, main_v26, main_v29, main_v32, main_v37, main_v40)

def fn_part1 {F : FTy → Type} [FloatOps F] (main_arg1 : FVec F S2048x2048 .f32) (main_arg7 : FVec F S5x64 .f32) (main_arg8 : FVec F S64 .f32) (main_arg9 : FVec F S64x1x1000 .f32) (main_arg10 : FVec F S1x1000 .f32) (main_arg11 : FVec F S1x1000 .f32) (main_v2 : IVec S2048x128 1) (main_v5 : IVec S2048x5 1) (main_v8 : IVec S128x4x16 1) (main_v11 : IVec S4x16 1) (main_v14 : IVec S4x16 1) (main_v17 : IVec S64 1) : IVec S2048x128 1 × IVec S2048x5 1 × IVec S128x4x16 1 × IVec S4x16 1 × IVec S4x16 1 × IVec S64 1 × IVec S5x64 1 × IVec S64 1 × IVec S64x1x1000 1 × IVec S1x1000 1 × IVec S1x1000 1 × IVec S2048x2048 1 × IVec S2048 1 :=
  let main_v18 : FVec F S5x64 .f32 := Host.absf main_arg7
  let main_cst_5 : FVec F S_ .f32 := constant S_ .f32 0x7F800000#32
  let main_v19 : FVec F S5x64 .f32 := broadcastInDim S5x64 ![] bcast_S_S5x64 main_cst_5
  let main_v20 : IVec S5x64 1 := cmpf .olt main_v18 main_v19
  let main_v21 : FVec F S64 .f32 := Host.absf main_arg8
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x1x1000 .f32 := Host.absf main_arg9
  let main_cst_7 : FVec F S_ .f32 := constant S_ .f32 0x7F800000#32
  let main_v25 : FVec F S64x1x1000 .f32 := broadcastInDim S64x1x1000 ![] bcast_S_S64x1x1000 main_cst_7
  let main_v26 : IVec S64x1x1000 1 := cmpf .olt main_v24 main_v25
  let main_v27 : FVec F S1x1000 .f32 := Host.absf main_arg10
  let main_cst_8 : FVec F S_ .f32 := constant S_ .f32 0x7F800000#32
  let main_v28 : FVec F S1x1000 .f32 := broadcastInDim S1x1000 ![] bcast_S_S1x1000 main_cst_8
  let main_v29 : IVec S1x1000 1 := cmpf .olt main_v27 main_v28
  let main_v30 : FVec F S1x1000 .f32 := Host.absf main_arg11
  let main_cst_9 : FVec F S_ .f32 := constant S_ .f32 0x7F800000#32
  let main_v31 : FVec F S1x1000 .f32 := broadcastInDim S1x1000 ![] bcast_S_S1x1000 main_cst_9
  let main_v32 : IVec S1x1000 1 := cmpf .olt main_v30 main_v31
  let main_cst_10 : FVec F S_ .f32 := constant S_ .f32 0x00000000#32
  let main_v33 : FVec F S2048x2048 .f32 := broadcastInDim S2048x2048 ![] bcast_S_S2048x2048 main_cst_10
  let main_v34 : IVec S2048x2048 1 := cmpf .oeq main_arg1 main_v33
  let main_cst_11 : FVec F S_ .f32 := constant S_ .f32 0x3F800000#32
  fn_part2 (F := F) main_arg1 main_v2 main_v5 main_v8 main_v11 main_v14 main_v17 main_v20 main_v23 main_v26 main_v29 main_v32 main_v34 main_cst_11

def fn {F : FTy → Type} [FloatOps F] (main_arg0 : FVec F S2048x128 .f32) (main_arg1 : FVec F S2048x2048 .f32) (main_arg2 : FVec F S2048x5 .f32) (main_arg3 : FVec F S128x4x16 .f32) (main_arg4 : FVec F S4x16 .f32) (main_arg5 : FVec F S4x16 .f32) (main_arg6 : FVec F S64 .f32) (main_arg7 : FVec F S5x64 .f32) (main_arg8 : FVec F S64 .f32) (main_arg9 : FVec F S64x1x1000 .f32) (main_arg10 : FVec F S1x1000 .f32) (main_arg11 : FVec F S1x1000 .f32) (main_arg12 : FVec F S1000 .f32) : IVec S2048x128 1 × IVec S2048x5 1 × IVec S128x4x16 1 × IVec S4x16 1 × IVec S4x16 1 × IVec S64 1 × IVec S5x64 1 × IVec S64 1 × IVec S64x1x1000 1 × IVec S1x1000 1 × IVec S1x1000 1 × IVec S2048x2048 1 × IVec S2048 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_v3 : FVec F S2048x5 .f32 := Host.absf main_arg2
  let main_cst_0 : FVec F S_ .f32 := constant S_ .f32 0x7F800000#32
  let main_v4 : FVec F S2048x5 .f32 := broadcastInDim S2048x5 ![] bcast_S_S2048x5 main_cst_0
  let main_v5 : IVec S2048x5 1 := cmpf .olt main_v3 main_v4
  let main_v6 : FVec F S128x4x16 .f32 := Host.absf main_arg3
  let main_cst_1 : FVec F S_ .f32 := constant S_ .f32 0x7F800000#32
  let main_v7 : FVec F S128x4x16 .f32 := broadcastInDim S128x4x16 ![] bcast_S_S128x4x16 main_cst_1
  let main_v8 : IVec S128x4x16 1 := cmpf .olt main_v6 main_v7
  let main_v9 : FVec F S4x16 .f32 := Host.absf main_arg4
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_v12 : FVec F S4x16 .f32 := Host.absf main_arg5
  let main_cst_3 : FVec F S_ .f32 := constant S_ .f32 0x7F800000#32
  let main_v13 : FVec F S4x16 .f32 := broadcastInDim S4x16 ![] bcast_S_S4x16 main_cst_3
  let main_v14 : IVec S4x16 1 := cmpf .olt main_v12 main_v13
  let main_v15 : FVec F S64 .f32 := Host.absf main_arg6
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg1 main_arg7 main_arg8 main_arg9 main_arg10 main_arg11 main_v2 main_v5 main_v8 main_v11 main_v14 main_v17
-- ==== Kernel.lean ====
abbrev S2048x128 : Shape := ⟨2, ![2048, 128]⟩
abbrev S2048x2048 : Shape := ⟨2, ![2048, 2048]⟩
abbrev S2048x5 : Shape := ⟨2, ![2048, 5]⟩
abbrev S128x4x16 : Shape := ⟨3, ![128, 4, 16]⟩
abbrev S4x16 : Shape := ⟨2, ![4, 16]⟩
abbrev S64 : Shape := ⟨1, ![64]⟩
abbrev S5x64 : Shape := ⟨2, ![5, 64]⟩
abbrev S64x1x1000 : Shape := ⟨3, ![64, 1, 1000]⟩
abbrev S1x1000 : Shape := ⟨2, ![1, 1000]⟩
abbrev S1000 : Shape := ⟨1, ![1000]⟩
abbrev S2048x1000 : Shape := ⟨2, ![2048, 1000]⟩
abbrev S1024x2048 : Shape := ⟨2, ![1024, 2048]⟩
abbrev S1024x1000 : Shape := ⟨2, ![1024, 1000]⟩
abbrev S2048x1024 : Shape := ⟨2, ![2048, 1024]⟩
abbrev S2048x96 : Shape := ⟨2, ![2048, 96]⟩
abbrev S2048x4 : Shape := ⟨2, ![2048, 4]⟩
abbrev S4x2048 : Shape := ⟨2, ![4, 2048]⟩
abbrev S2048x64 : Shape := ⟨2, ![2048, 64]⟩
abbrev S2048x1 : Shape := ⟨2, ![2048, 1]⟩
abbrev S1x2048 : Shape := ⟨2, ![1, 2048]⟩
abbrev S1024x1 : Shape := ⟨2, ![1024, 1]⟩
abbrev S1x1x2048 : Shape := ⟨3, ![1, 1, 2048]⟩
abbrev S1 : Shape := ⟨1, ![1]⟩
abbrev S1x1x1 : Shape := ⟨3, ![1, 1, 1]⟩
abbrev S1024x1024 : Shape := ⟨2, ![1024, 1024]⟩
abbrev S1024 : Shape := ⟨1, ![1024]⟩
abbrev S1024x4 : Shape := ⟨2, ![1024, 4]⟩
abbrev S2048x24 : Shape := ⟨2, ![2048, 24]⟩
abbrev S1024x24 : Shape := ⟨2, ![1024, 24]⟩
abbrev S1024x16 : Shape := ⟨2, ![1024, 16]⟩
abbrev S1024x64 : Shape := ⟨2, ![1024, 64]⟩
abbrev S1x64 : Shape := ⟨2, ![1, 64]⟩
abbrev S64x1000 : Shape := ⟨2, ![64, 1000]⟩
abbrev S1024x23 : Shape := ⟨2, ![1024, 23]⟩
abbrev S1x1024 : Shape := ⟨2, ![1, 1024]⟩
abbrev S2048x7 : Shape := ⟨2, ![2048, 7]⟩
abbrev S128x1x16 : Shape := ⟨3, ![128, 1, 16]⟩
abbrev S128x16 : Shape := ⟨2, ![128, 16]⟩
abbrev S2048x16 : Shape := ⟨2, ![2048, 16]⟩
abbrev S1x16 : Shape := ⟨2, ![1, 16]⟩
abbrev S4 : Shape := ⟨1, ![4]⟩
abbrev S4x1 : Shape := ⟨2, ![4, 1]⟩
abbrev S1x4 : Shape := ⟨2, ![1, 4]⟩

abbrev nBuf : Space → Nat
  | .hbm => 14
  | .vmem => 26
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S2048x5, .f32⟩
  | .hbm, ⟨3, _⟩ => ⟨S128x4x16, .f32⟩
  | .hbm, ⟨4, _⟩ => ⟨S4x16, .f32⟩
  | .hbm, ⟨5, _⟩ => ⟨S4x16, .f32⟩
  | .hbm, ⟨6, _⟩ => ⟨S64, .f32⟩
  | .hbm, ⟨7, _⟩ => ⟨S5x64, .f32⟩
  | .hbm, ⟨8, _⟩ => ⟨S64, .f32⟩
  | .hbm, ⟨9, _⟩ => ⟨S64x1x1000, .f32⟩
  | .hbm, ⟨10, _⟩ => ⟨S1x1000, .f32⟩
  | .hbm, ⟨11, _⟩ => ⟨S1x1000, .f32⟩
  | .hbm, ⟨12, _⟩ => ⟨S1000, .f32⟩
  | .hbm, ⟨13, _⟩ => ⟨S2048x1000, .f32⟩
  | .local _ .vmem, ⟨0, _⟩ => ⟨S2048x128, .f32⟩
  | .local _ .vmem, ⟨1, _⟩ => ⟨S1024x2048, .f32⟩
  | .local _ .vmem, ⟨2, _⟩ => ⟨S1024x2048, .f32⟩
  | .local _ .vmem, ⟨3, _⟩ => ⟨S2048x5, .f32⟩
  | .local _ .vmem, ⟨4, _⟩ => ⟨S128x4x16, .f32⟩
  | .local _ .vmem, ⟨5, _⟩ => ⟨S4x16, .f32⟩
  | .local _ .vmem, ⟨6, _⟩ => ⟨S4x16, .f32⟩
  | .local _ .vmem, ⟨7, _⟩ => ⟨S64, .f32⟩
  | .local _ .vmem, ⟨8, _⟩ => ⟨S5x64, .f32⟩
  | .local _ .vmem, ⟨9, _⟩ => ⟨S64, .f32⟩
  | .local _ .vmem, ⟨10, _⟩ => ⟨S64x1x1000, .f32⟩
  | .local _ .vmem, ⟨11, _⟩ => ⟨S1x1000, .f32⟩
  | .local _ .vmem, ⟨12, _⟩ => ⟨S1x1000, .f32⟩
  | .local _ .vmem, ⟨13, _⟩ => ⟨S1000, .f32⟩
  | .local _ .vmem, ⟨14, _⟩ => ⟨S1024x1000, .f32⟩
  | .local _ .vmem, ⟨15, _⟩ => ⟨S1024x1000, .f32⟩
  | .local _ .vmem, ⟨16, _⟩ => ⟨S2048x2048, .bf16⟩
  | .local _ .vmem, ⟨17, _⟩ => ⟨S2048x1024, .bf16⟩
  | .local _ .vmem, ⟨18, _⟩ => ⟨S2048x96, .bf16⟩
  | .local _ .vmem, ⟨19, _⟩ => ⟨S2048x4, .f32⟩
  | .local _ .vmem, ⟨20, _⟩ => ⟨S2048x4, .f32⟩
  | .local _ .vmem, ⟨21, _⟩ => ⟨S4x2048, .f32⟩
  | .local _ .vmem, ⟨22, _⟩ => ⟨S4x2048, .f32⟩
  | .local _ .vmem, ⟨23, _⟩ => ⟨S2048x64, .f32⟩
  | .local _ .vmem, ⟨24, _⟩ => ⟨S2048x1, .f32⟩
  | .local _ .vmem, ⟨25, _⟩ => ⟨S1x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c2_i32 : BitVec 32 := 2#32
  let v2 : BitVec 1 := Scalar.cmpi .sgt arg0 c2_i32
  let v3 : BitVec 32 := Scalar.extui v2
  let v4 : BitVec 32 := Scalar.addi v1 v3
  let c0_i32_0 : BitVec 32 := 0#32
  let v5 : BitVec 32 := Scalar.maxsi v4 c0_i32_0
  let c2_i32_1 : BitVec 32 := 2#32
  let v6 : BitVec 32 := Scalar.minsi v5 c2_i32_1
  let c0_i32_2 : BitVec 32 := 0#32
  let v7 : BitVec 1 := Scalar.cmpi .ne v6 c0_i32_2
  v7

def k0_cond2 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c2_i32 : BitVec 32 := 2#32
  let v2 : BitVec 1 := Scalar.cmpi .sgt arg0 c2_i32
  let v3 : BitVec 32 := Scalar.extui v2
  let v4 : BitVec 32 := Scalar.addi v1 v3
  let c0_i32_0 : BitVec 32 := 0#32
  let v5 : BitVec 32 := Scalar.maxsi v4 c0_i32_0
  let c2_i32_1 : BitVec 32 := 2#32
  let v6 : BitVec 32 := Scalar.minsi v5 c2_i32_1
  let c1_i32 : BitVec 32 := 1#32
  let v8 : BitVec 32 := Scalar.subi v6 c1_i32
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c2_i32_4 : BitVec 32 := 2#32
  let v10 : BitVec 32 := Scalar.subi arg0 c2_i32_4
  let c1_i32_5 : BitVec 32 := 1#32
  let v11 : BitVec 32 := Scalar.subi v10 c1_i32_5
  let c1024_i32 : BitVec 32 := 1024#32
  let v13 : BitVec 32 := Scalar.muli v11 c1024_i32
  let v14 : Index := Scalar.indexCast v13
  let c0_7 : Index := 0#32
  ![v14.toNat, 0]
def k0_off2 (i : grid0.Coords) : Fin 2 → Nat :=
  let arg0 : BitVec 32 := BitVec.ofNat 32 (i 0).val
  let c2_i32_4 : BitVec 32 := 2#32
  let v10 : BitVec 32 := Scalar.subi arg0 c2_i32_4
  let c1_i32_5 : BitVec 32 := 1#32
  let v11 : BitVec 32 := Scalar.subi v10 c1_i32_5
  let c1024_i32_14 : BitVec 32 := 1024#32
  let v53 : BitVec 32 := Scalar.muli v11 c1024_i32_14
  let v54 : Index := Scalar.indexCast v53
  let c0_15 : Index := 0#32
  ![v54.toNat, 0]
def k0_off3 (i : grid0.Coords) : Fin 2 → Nat :=
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32 : BitVec 32 := 1024#32
  let v23 : BitVec 32 := Scalar.muli v20 c1024_i32
  let v24 : Index := Scalar.indexCast v23
  let c0_12 : Index := 0#32
  ![v24.toNat, 0]
def k0_off4 (i : grid0.Coords) : Fin 2 → Nat :=
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32_13 : BitVec 32 := 1024#32
  let v28 : BitVec 32 := Scalar.muli v20 c1024_i32_13
  let v29 : Index := Scalar.indexCast v28
  let c0_14 : Index := 0#32
  ![v29.toNat, 0]
def k0_off5 (i : grid0.Coords) : Fin 2 → Nat :=
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32_29 : BitVec 32 := 1024#32
  let v124 : BitVec 32 := Scalar.muli v20 c1024_i32_29
  let v125 : Index := Scalar.indexCast v124
  let c0_30 : Index := 0#32
  ![v125.toNat, 0]
def k0_off6 (i : grid0.Coords) : Fin 2 → Nat :=
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32_37 : BitVec 32 := 1024#32
  let v135 : BitVec 32 := Scalar.muli v20 c1024_i32_37
  let v136 : Index := Scalar.indexCast v135
  let c0_38 : Index := 0#32
  ![v136.toNat, 0]
def k0_off7 (i : grid0.Coords) : Fin 2 → Nat :=
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32_42 : BitVec 32 := 1024#32
  let v142 : BitVec 32 := Scalar.muli v20 c1024_i32_42
  let v143 : Index := Scalar.indexCast v142
  let c0_43 : Index := 0#32
  ![v143.toNat, 0]
def k0_off8 (i : grid0.Coords) : Fin 2 → Nat :=
  let c0_48 : Index := 0#32
  let arg0 : BitVec 32 := BitVec.ofNat 32 (i 0).val
  let c1_i32_4 : BitVec 32 := 1#32
  let v10 : BitVec 32 := Scalar.subi arg0 c1_i32_4
  let c2_i32_5 : BitVec 32 := 2#32
  let c0_i32_6 : BitVec 32 := 0#32
  let v11 : BitVec 1 := Scalar.cmpi .eq c2_i32_5 c0_i32_6
  let c1_i32_7 : BitVec 32 := 1#32
  let v12 : BitVec 32 := Scalar.select v11 c1_i32_7 c2_i32_5
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c1024_i32_47 : BitVec 32 := 1024#32
  let v149 : BitVec 32 := Scalar.muli v20 c1024_i32_47
  let v150 : Index := Scalar.indexCast v149
  ![0, v150.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 1 := Scalar.cmpi .sle arg0 c2_i32
  let c1_i32 : BitVec 32 := 1#32
  let v1 : BitVec 32 := Scalar.subi arg0 c1_i32
  let c0_i32 : BitVec 32 := 0#32
  let v2 : BitVec 32 := Scalar.maxsi v1 c0_i32
  let c2_i32_0 : BitVec 32 := 2#32
  let v3 : BitVec 32 := Scalar.subi arg0 c2_i32_0
  let c1_i32_1 : BitVec 32 := 1#32
  let v4 : BitVec 32 := Scalar.subi v3 c1_i32_1
  let v5 : BitVec 32 := Scalar.select v0 v2 v4
  let c0_i32_2 : BitVec 32 := 0#32
  let c0_i32_3 : BitVec 32 := 0#32
  ![v5.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1000 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x128 : Shape := ⟨2, ![2048, 128]⟩
abbrev S2048x2048 : Shape := ⟨2, ![2048, 2048]⟩
abbrev S2048x5 : Shape := ⟨2, ![2048, 5]⟩
abbrev S128x4x16 : Shape := ⟨3, ![128, 4, 16]⟩
abbrev S4x16 : Shape := ⟨2, ![4, 16]⟩
abbrev S64 : Shape := ⟨1, ![64]⟩
abbrev S5x64 : Shape := ⟨2, ![5, 64]⟩
abbrev S64x1x1000 : Shape := ⟨3, ![64, 1, 1000]⟩
abbrev S1x1000 : Shape := ⟨2, ![1, 1000]⟩
abbrev S1000 : Shape := ⟨1, ![1000]⟩
abbrev S2048x4x16 : Shape := ⟨3, ![2048, 4, 16]⟩
abbrev S4x2048 : Shape := ⟨2, ![4, 2048]⟩
abbrev S2048x4 : Shape := ⟨2, ![2048, 4]⟩
abbrev S2048x1x4 : Shape := ⟨3, ![2048, 1, 4]⟩
abbrev S1x2048x4 : Shape := ⟨3, ![1, 2048, 4]⟩
abbrev S2048x2048x4 : Shape := ⟨3, ![2048, 2048, 4]⟩
abbrev S_ : Shape := ⟨0, ![]⟩
abbrev S2048x2048x1 : Shape := ⟨3, ![2048, 2048, 1]⟩
abbrev S4x16x2048 : Shape := ⟨3, ![4, 16, 2048]⟩
abbrev S2048x64 : Shape := ⟨2, ![2048, 64]⟩
abbrev S1x64 : Shape := ⟨2, ![1, 64]⟩
abbrev S2048x1x1000 : Shape := ⟨3, ![2048, 1, 1000]⟩
abbrev S1x2048 : Shape := ⟨2, ![1, 2048]⟩
abbrev S2048x1 : Shape := ⟨2, ![2048, 1]⟩
abbrev S2048x1x1 : Shape := ⟨3, ![2048, 1, 1]⟩
abbrev S1x2048x1 : Shape := ⟨3, ![1, 2048, 1]⟩
abbrev S1x1000x2048 : Shape := ⟨3, ![1, 1000, 2048]⟩
abbrev S2048x1000 : Shape := ⟨2, ![2048, 1000]⟩
abbrev S2048 : Shape := ⟨1, ![2048]⟩

abbrev nBuf : Space → Nat
  | .hbm => 141
  | .vmem => 0
  | .smem => 0
  | _ => 0

abbrev hbmTy0_0 (i : Nat) : BufTy := match i % 128 with
  | 0 => ⟨S2048x128, .f32⟩
  | 1 => ⟨S2048x2048, .f32⟩
  | 2 => ⟨S2048x5, .f32⟩
  | 3 => ⟨S128x4x16, .f32⟩
  | 4 => ⟨S4x16, .f32⟩
  | 5 => ⟨S4x16, .f32⟩
  | 6 => ⟨S64, .f32⟩
  | 7 => ⟨S5x64, .f32⟩
  | 8 => ⟨S64, .f32⟩
  | 9 => ⟨S64x1x1000, .f32⟩
  | 10 => ⟨S1x1000, .f32⟩
  | 11 => ⟨S1x1000, .f32⟩
  | 12 => ⟨S1000, .f32⟩
  | 13 => ⟨S2048x4x16, .f32⟩
  | 14 => ⟨S4x2048, .f32⟩
  | 15 => ⟨S2048x4, .f32⟩
  | 16 => ⟨S4x2048, .f32⟩
  | 17 => ⟨S2048x4, .f32⟩
  | 18 => ⟨S2048x1x4, .f32⟩
  | 19 => ⟨S1x2048x4, .f32⟩
  | 20 => ⟨S2048x2048x4, .f32⟩
  | 21 => ⟨S2048x2048x4, .f32⟩
  | 22 => ⟨S2048x2048x4, .f32⟩
  | 23 => ⟨S_, .f32⟩
  | 24 => ⟨S_, .f32⟩
  | 25 => ⟨S2048x2048x4, .f32⟩
  | 26 => ⟨S2048x2048x4, .i1⟩
  | 27 => ⟨S_, .f32⟩
  | 28 => ⟨S2048x2048x4, .f32⟩
  | 29 => ⟨S2048x2048x4, .f32⟩
  | 30 => ⟨S2048x2048x4, .f32⟩
  | 31 => ⟨S_, .f32⟩
  | 32 => ⟨S2048x2048, .f32⟩
  | 33 => ⟨S2048x2048, .i1⟩
  | 34 => ⟨S2048x2048x1, .i1⟩
  | 35 => ⟨S_, .f32⟩
  | 36 => ⟨S2048x2048x4, .i1⟩
  | 37 => ⟨S2048x2048x4, .f32⟩
  | 38 => ⟨S2048x2048x4, .f32⟩
  | 39 => ⟨S_, .f32⟩
  | 40 => ⟨S2048x4, .f32⟩
  | 41 => ⟨S_, .f32⟩
  | 42 => ⟨S2048x4, .f32⟩
  | 43 => ⟨S2048x4, .f32⟩
  | 44 => ⟨S2048x1x4, .f32⟩
  | 45 => ⟨S2048x2048x4, .f32⟩
  | 46 => ⟨S2048x2048x4, .f32⟩
  | 47 => ⟨S2048x2048x4, .f32⟩
  | 48 => ⟨S_, .f32⟩
  | 49 => ⟨S2048x4, .f32⟩
  | 50 => ⟨S2048x1x4, .f32⟩
  | 51 => ⟨S2048x2048x4, .f32⟩
  | 52 => ⟨S2048x2048x4, .f32⟩
  | 53 => ⟨S4x16x2048, .f32⟩
  | 54 => ⟨S2048x4x16, .f32⟩
  | 55 => ⟨S2048x64, .f32⟩
  | 56 => ⟨S1x64, .f32⟩
  | 57 => ⟨S2048x64, .f32⟩
  | 58 => ⟨S2048x64, .f32⟩
  | 59 => ⟨S_, .f32⟩
  | 60 => ⟨S2048x64, .f32⟩
  | 61 => ⟨S2048x64, .i1⟩
  | 62 => ⟨S_, .f32⟩
  | 63 => ⟨S2048x64, .f32⟩
  | 64 => ⟨S2048x64, .i1⟩
  | 65 => ⟨S_, .f32⟩
  | 66 => ⟨S_, .f32⟩
  | 67 => ⟨S2048x64, .f32⟩
  | 68 => ⟨S2048x64, .f32⟩
  | 69 => ⟨S2048x64, .f32⟩
  | 70 => ⟨S_, .f32⟩
  | 71 => ⟨S2048x64, .f32⟩
  | 72 => ⟨S2048x64, .f32⟩
  | 73 => ⟨S2048x64, .f32⟩
  | 74 => ⟨S2048x64, .f32⟩
  | 75 => ⟨S1x64, .f32⟩
  | 76 => ⟨S2048x64, .f32⟩
  | 77 => ⟨S2048x64, .f32⟩
  | 78 => ⟨S_, .f32⟩
  | 79 => ⟨S2048x64, .f32⟩
  | 80 => ⟨S2048x64, .f32⟩
  | 81 => ⟨S2048x64, .f32⟩
  | 82 => ⟨S2048x1x1000, .f32⟩
  | 83 => ⟨S1x2048, .f32⟩
  | 84 => ⟨S2048x1, .f32⟩
  | 85 => ⟨S1x2048, .f32⟩
  | 86 => ⟨S2048x1, .f32⟩
  | 87 => ⟨S2048x1x1, .f32⟩
  | 88 => ⟨S1x2048x1, .f32⟩
  | 89 => ⟨S2048x2048x1, .f32⟩
  | 90 => ⟨S2048x2048x1, .f32⟩
  | 91 => ⟨S2048x2048x1, .f32⟩
  | 92 => ⟨S_, .f32⟩
  | 93 => ⟨S_, .f32⟩
  | 94 => ⟨S2048x2048x1, .f32⟩
  | 95 => ⟨S2048x2048x1, .i1⟩
  | 96 => ⟨S_, .f32⟩
  | 97 => ⟨S2048x2048x1, .f32⟩
  | 98 => ⟨S2048x2048x1, .f32⟩
  | 99 => ⟨S2048x2048x1, .f32⟩
  | 100 => ⟨S_, .f32⟩
  | 101 => ⟨S2048x2048, .f32⟩
  | 102 => ⟨S2048x2048, .i1⟩
  | 103 => ⟨S2048x2048x1, .i1⟩
  | 104 => ⟨S_, .f32⟩
  | 105 => ⟨S2048x2048x1, .f32⟩
  | 106 => ⟨S2048x2048x1, .f32⟩
  | 107 => ⟨S_, .f32⟩
  | 108 => ⟨S2048x1, .f32⟩
  | 109 => ⟨S_, .f32⟩
  | 110 => ⟨S2048x1, .f32⟩
  | 111 => ⟨S2048x1, .f32⟩
  | 112 => ⟨S2048x1x1, .f32⟩
  | 113 => ⟨S2048x2048x1, .f32⟩
  | 114 => ⟨S2048x2048x1, .f32⟩
  | 115 => ⟨S2048x2048x1, .f32⟩
  | 116 => ⟨S_, .f32⟩
  | 117 => ⟨S2048x1, .f32⟩
  | 118 => ⟨S2048x1x1, .f32⟩
  | 119 => ⟨S2048x2048x1, .f32⟩
  | 120 => ⟨S2048x2048x1, .f32⟩
  | 121 => ⟨S1x1000x2048, .f32⟩
  | 122 => ⟨S2048x1x1000, .f32⟩
  | 123 => ⟨S2048x1000, .f32⟩
  | 124 => ⟨S1x1000, .f32⟩
  | 125 => ⟨S2048x1000, .f32⟩
  | 126 => ⟨S2048x1000, .f32⟩
  | 127 => ⟨S_, .f32⟩
  | _ => ⟨S2048x128, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S2048x1, .f32⟩
  | 5 => ⟨S2048x1000, .f32⟩
  | 6 => ⟨S2048x1000, .f32⟩
  | 7 => ⟨S2048x1000, .f32⟩
  | 8 => ⟨S_, .f32⟩
  | 9 => ⟨S2048, .f32⟩
  | 10 => ⟨S2048x1, .f32⟩
  | 11 => ⟨S2048x1000, .f32⟩
  | 12 => ⟨S2048x1000, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_cst_1 : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_v4 : Ref sig .tc := ⟨.hbm, 68, rfl⟩
abbrev main_call2_v5 : Ref sig .tc := ⟨.hbm, 69, rfl⟩
abbrev main_call2_cst_2 : Ref sig .tc := ⟨.hbm, 70, rfl⟩
abbrev main_call2_v6 : Ref sig .tc := ⟨.hbm, 71, rfl⟩
abbrev main_call2_v7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call3_cst : Ref sig .tc := ⟨.hbm, 78, rfl⟩
abbrev main_call3_v0 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_5 : Ref sig .tc := ⟨.hbm, 92, rfl⟩
abbrev main_call4_cst : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v49 : Ref sig .tc := ⟨.hbm, 99, rfl⟩
abbrev main_cst_6 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_7 : Ref sig .tc := ⟨.hbm, 104, rfl⟩
abbrev main_call5_v0 : Ref sig .tc := ⟨.hbm, 105, rfl⟩
abbrev main_v53 : Ref sig .tc := ⟨.hbm, 106, rfl⟩
abbrev main_cst_8 : Ref sig .tc := ⟨.hbm, 107, rfl⟩
abbrev main_v54 : Ref sig .tc := ⟨.hbm, 108, rfl⟩
abbrev main_cst_9 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_10 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_11 : Ref sig .tc := ⟨.hbm, 127, rfl⟩
abbrev main_v71 : Ref sig .tc := ⟨.hbm, 128, rfl⟩
abbrev main_cst_12 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_13 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩

abbrev nD : Nat := 1
abbrev τ : Topo := Topo.v7x

variable {F : FTy → Type} [FloatOps F]
-- ==== Proof.Common.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.WritesUnit
public import Idealize.ShloMosaic.Lib.ValueIdx

/-!
Row blocks. The arrays of 2048 rows that the kernel keeps between grid points are read and written in two blocks of
1024 rows. This file names the block of an array (`rowBlk`), the array with one block replaced (`putRows`), the array
glued from two blocks (`glueRows`), the same three for columns of a one-row array, and says what a load or a store
through the kernel's rectangles means in these terms.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic

variable {F : FTy → Type} [FloatOps F]

/-! ## Blocks of rows and of columns -/

section Blocks

variable {n : ℕ} {α : Type}

/-- Rows `1024 j … 1024 j + 1023` of an array of 2048 rows. -/
def rowBlk (j : Fin 2) (X : (⟨2, ![2048, n]⟩ : Shape).Idx → α) : (⟨2, ![1024, n]⟩ : Shape).Idx → α :=
  fun y => X (ix2 ⟨1024 * j.val + (y 0).val, by have h : (y 0).val < 1024 := (y 0).isLt; omega⟩ (y 1))

/-- The array `X` with its rows `1024 j … 1024 j + 1023` replaced by `P`. -/
def putRows (j : Fin 2) (P : (⟨2, ![1024, n]⟩ : Shape).Idx → α) (X : (⟨2, ![2048, n]⟩ : Shape).Idx → α) :
    (⟨2, ![2048, n]⟩ : Shape).Idx → α :=
  fun y => if h : 1024 * j.val ≤ (y 0).val ∧ (y 0).val < 1024 * j.val + 1024 then
    P (ix2 ⟨(y 0).val - 1024 * j.val, by omega⟩ (y 1)) else X y

/-- The array whose two blocks of rows are `P 0` and `P 1`. -/
def glueRows (P : Fin 2 → (⟨2, ![1024, n]⟩ : Shape).Idx → α) : (⟨2, ![2048, n]⟩ : Shape).Idx → α :=
  fun y => P ⟨(y 0).val / 1024, by have h : (y 0).val < 2048 := (y 0).isLt; omega⟩
    (ix2 ⟨(y 0).val % 1024, Nat.mod_lt _ (by decide)⟩ (y 1))

/-- The one-row array `X` with its columns `1024 j … 1024 j + 1023` replaced by `P`. -/
def putCols (j : Fin 2) (P : (⟨2, ![1, 1024]⟩ : Shape).Idx → α) (X : (⟨2, ![1, 2048]⟩ : Shape).Idx → α) :
    (⟨2, ![1, 2048]⟩ : Shape).Idx → α :=
  fun y => if h : 1024 * j.val ≤ (y 1).val ∧ (y 1).val < 1024 * j.val + 1024 then
    P (ix2 (y 0) ⟨(y 1).val - 1024 * j.val, by omega⟩) else X y

/-- The one-row array whose two blocks of columns are `P 0` and `P 1`. -/
def glueCols (P : Fin 2 → (⟨2, ![1, 1024]⟩ : Shape).Idx → α) : (⟨2, ![1, 2048]⟩ : Shape).Idx → α :=
  fun y => P ⟨(y 1).val / 1024, by have h : (y 1).val < 2048 := (y 1).isLt; omega⟩
    (ix2 (y 0) ⟨(y 1).val % 1024, Nat.mod_lt _ (by decide)⟩)

/-- The first `k` rows of `X` and of `G` agree. -/
def AgreeRows (k : ℕ) (X G : (⟨2, ![2048, n]⟩ : Shape).Idx → α) : Prop := ∀ y, (y 0).val < k → X y = G y

/-- The first `k` columns of `X` and of `G` agree. -/
def AgreeCols (k : ℕ) (X G : (⟨2, ![1, 2048]⟩ : Shape).Idx → α) : Prop := ∀ y, (y 1).val < k → X y = G y

/-- Arrays that agree on all rows are equal. -/
theorem AgreeRows.eq {X G : (⟨2, ![2048, n]⟩ : Shape).Idx → α} (h : AgreeRows 2048 X G) : X = G :=
  funext fun y => h y (y 0).isLt

/-- One-row arrays that agree on all columns are equal. -/
theorem AgreeCols.eq {X G : (⟨2, ![1, 2048]⟩ : Shape).Idx → α} (h : AgreeCols 2048 X G) : X = G :=
  funext fun y => h y (y 1).isLt

/-- Writing block `j` of the glued array after the blocks before it keeps the agreement. -/
theorem AgreeRows.put {j : Fin 2} {P : Fin 2 → (⟨2, ![1024, n]⟩ : Shape).Idx → α}
    {X : (⟨2, ![2048, n]⟩ : Shape).Idx → α} (h : AgreeRows (1024 * j.val) X (glueRows P)) :
    AgreeRows (1024 * j.val + 1024) (putRows j (P j) X) (glueRows P) := by
  intro y hy
  unfold putRows
  split_ifs with hc
  · have hq : (⟨(y 0).val / 1024, by have h : (y 0).val < 2048 := (y 0).isLt; omega⟩ : Fin 2) = j :=
      Fin.ext (show (y 0).val / 1024 = j.val by omega)
    have hr : (y 0).val % 1024 = (y 0).val - 1024 * j.val := by omega
    unfold glueRows
    rw [hq]
    congr 2
    all_goals exact Fin.ext hr.symm
  · exact h y (by omega)

/-- The same for blocks of columns. -/
theorem AgreeCols.put {j : Fin 2} {P : Fin 2 → (⟨2, ![1, 1024]⟩ : Shape).Idx → α}
    {X : (⟨2, ![1, 2048]⟩ : Shape).Idx → α} (h : AgreeCols (1024 * j.val) X (glueCols P)) :
    AgreeCols (1024 * j.val + 1024) (putCols j (P j) X) (glueCols P) := by
  intro y hy
  unfold putCols
  split_ifs with hc
  · have hq : (⟨(y 1).val / 1024, by have h : (y 1).val < 2048 := (y 1).isLt; omega⟩ : Fin 2) = j :=
      Fin.ext (show (y 1).val / 1024 = j.val by omega)
    have hr : (y 1).val % 1024 = (y 1).val - 1024 * j.val := by omega
    unfold glueCols
    rw [hq]
    congr 2
    all_goals exact Fin.ext hr.symm
  · exact h y (by omega)

end Blocks

/-! ## Loads and stores through the kernel's rectangles -/

section Views

variable {n : ℕ} {e : EltTy}

/-- A load of the rectangle of rows from `1024 j` on reads block `j`. -/
theorem load_rows {m : Memref sig .tc .vmem (⟨2, ![2048, n]⟩ : Shape) e} (h : m.IsWhole)
    (X : (⟨2, ![2048, n]⟩ : Shape).Idx → Elt F e) {off : Fin 2 → ℕ} (j : Fin 2) (ho : off = ![1024 * j.val, 0])
    (inb : ∀ a : Fin 2, off a + (![1024, n] : Fin 2 → ℕ) a ≤ (![2048, n] : Fin 2 → ℕ) a) :
    View.readAt (Elt F) m.view
        (Rect.unit (s := (⟨2, ![2048, n]⟩ : Shape)) off ![1024, n] inb).toLoadRect (h.unread X)
      = rowBlk j X := by
  subst ho
  rw [View.readAt_eq_ld, h.read_unread]
  funext y
  exact View.ld_unit_apply_of X _ _ inb y _ (Fin.forall_fin_two.mpr ⟨rfl, (Nat.zero_add _).symm⟩)

/-- A load of the whole rectangle of rank two reads everything. -/
theorem load_whole2 {a b : ℕ} {m : Memref sig .tc .vmem (⟨2, ![a, b]⟩ : Shape) e} (h : m.IsWhole)
    (X : (⟨2, ![a, b]⟩ : Shape).Idx → Elt F e)
    (inb : ∀ k : Fin 2, (![0, 0] : Fin 2 → ℕ) k + (![a, b] : Fin 2 → ℕ) k ≤ (![a, b] : Fin 2 → ℕ) k) :
    View.readAt (Elt F) m.view
        (Rect.unit (s := (⟨2, ![a, b]⟩ : Shape)) ![0, 0] ![a, b] inb).toLoadRect (h.unread X) = X := by
  rw [View.readAt_eq_ld, h.read_unread]
  funext y
  exact View.ld_unit_apply_of X _ _ inb y _
    (Fin.forall_fin_two.mpr ⟨(Nat.zero_add _).symm, (Nat.zero_add _).symm⟩)

/-- A load of the whole rectangle of rank one reads everything. -/
theorem load_whole1 {a : ℕ} {m : Memref sig .tc .vmem (⟨1, ![a]⟩ : Shape) e} (h : m.IsWhole)
    (X : (⟨1, ![a]⟩ : Shape).Idx → Elt F e)
    (inb : ∀ k : Fin 1, (![0] : Fin 1 → ℕ) k + (![a] : Fin 1 → ℕ) k ≤ (![a] : Fin 1 → ℕ) k) :
    View.readAt (Elt F) m.view
        (Rect.unit (s := (⟨1, ![a]⟩ : Shape)) ![0] ![a] inb).toLoadRect (h.unread X) = X := by
  rw [View.readAt_eq_ld, h.read_unread]
  funext y
  exact View.ld_unit_apply_of X _ _ inb y _
    (fun k => by rw [Subsingleton.elim k 0]; exact (Nat.zero_add _).symm)

/-- A load of the whole rectangle of rank three reads everything. -/
theorem load_whole3 {a b c : ℕ} {m : Memref sig .tc .vmem (⟨3, ![a, b, c]⟩ : Shape) e} (h : m.IsWhole)
    (X : (⟨3, ![a, b, c]⟩ : Shape).Idx → Elt F e)
    (inb : ∀ k : Fin 3, (![0, 0, 0] : Fin 3 → ℕ) k + (![a, b, c] : Fin 3 → ℕ) k ≤ (![a, b, c] : Fin 3 → ℕ) k) :
    View.readAt (Elt F) m.view
        (Rect.unit (s := (⟨3, ![a, b, c]⟩ : Shape)) ![0, 0, 0] ![a, b, c] inb).toLoadRect (h.unread X) = X := by
  rw [View.readAt_eq_ld, h.read_unread]
  funext y
  refine View.ld_unit_apply_of X _ _ inb y _ (fun k => ?_)
  match k with
  | 0 => exact (Nat.zero_add _).symm
  | 1 => exact (Nat.zero_add _).symm
  | 2 => exact (Nat.zero_add _).symm

/-- A store into the rows from `1024 j` on replaces block `j`. -/
theorem store_rows {m : Memref sig .tc .vmem (⟨2, ![2048, n]⟩ : Shape) e} (h : m.IsWhole)
    (X : (⟨2, ![2048, n]⟩ : Shape).Idx → Elt F e) {off : Fin 2 → ℕ} (j : Fin 2) (ho : off = ![1024 * j.val, 0])
    (inb : ∀ a : Fin 2, off a + (![1024, n] : Fin 2 → ℕ) a ≤ (![2048, n] : Fin 2 → ℕ) a)
    (P : (⟨2, ![1024, n]⟩ : Shape).Idx → Elt F e) :
    m.view.read (Elt F) (m.view.writes (Elt F) (h.unread X)
        [⟨Rect.unit (s := (⟨2, ![2048, n]⟩ : Shape)) off ![1024, n] inb, P⟩]) = putRows j P X := by
  subst ho
  funext y
  unfold putRows
  split_ifs with hc
  · exact View.read_writes_cons_unit_of_mem m.view _ inb P [] y _ rfl
      (Fin.forall_fin_two.mpr ⟨by
        show (y 0).val = 1024 * j.val + ((y 0).val - 1024 * j.val); omega, (Nat.zero_add _).symm⟩)
  · refine (View.read_writes_cons_unit_of_not_mem m.view _ inb P [] y rfl (0 : Fin 2) ?_).trans ?_
    · show (y 0).val < 1024 * j.val ∨ 1024 * j.val + 1024 ≤ (y 0).val
      omega
    · exact congrFun (h.read_unread X) y

/-- A store into the columns from `1024 j` on of a one-row array replaces block `j` of columns. -/
theorem store_cols {m : Memref sig .tc .vmem (⟨2, ![1, 2048]⟩ : Shape) e} (h : m.IsWhole)
    (X : (⟨2, ![1, 2048]⟩ : Shape).Idx → Elt F e) {off : Fin 2 → ℕ} (j : Fin 2) (ho : off = ![0, 1024 * j.val])
    (inb : ∀ a : Fin 2, off a + (![1, 1024] : Fin 2 → ℕ) a ≤ (![1, 2048] : Fin 2 → ℕ) a)
    (P : (⟨2, ![1, 1024]⟩ : Shape).Idx → Elt F e) :
    m.view.read (Elt F) (m.view.writes (Elt F) (h.unread X)
        [⟨Rect.unit (s := (⟨2, ![1, 2048]⟩ : Shape)) off ![1, 1024] inb, P⟩]) = putCols j P X := by
  subst ho
  funext y
  unfold putCols
  split_ifs with hc
  · exact View.read_writes_cons_unit_of_mem m.view _ inb P [] y _ rfl
      (Fin.forall_fin_two.mpr ⟨(Nat.zero_add _).symm, by
        show (y 1).val = 1024 * j.val + ((y 1).val - 1024 * j.val); omega⟩)
  · refine (View.read_writes_cons_unit_of_not_mem m.view _ inb P [] y rfl (1 : Fin 2) ?_).trans ?_
    · show (y 1).val < 1024 * j.val ∨ 1024 * j.val + 1024 ≤ (y 1).val
      omega
    · exact congrFun (h.read_unread X) y

/-- A store of the whole rectangle of rank two leaves what was stored. -/
theorem store_whole2 {a b : ℕ} {m : Memref sig .tc .vmem (⟨2, ![a, b]⟩ : Shape) e} (f : m.view.ty.Contents (Elt F))
    (inb : ∀ k : Fin 2, (![0, 0] : Fin 2 → ℕ) k + (![a, b] : Fin 2 → ℕ) k ≤ (![a, b] : Fin 2 → ℕ) k)
    (P : (⟨2, ![a, b]⟩ : Shape).Idx → Elt F e) :
    m.view.read (Elt F) (m.view.writes (Elt F) f
        [⟨Rect.unit (s := (⟨2, ![a, b]⟩ : Shape)) ![0, 0] ![a, b] inb, P⟩]) = P :=
  funext fun y => View.read_writes_cons_unit_of_mem m.view f inb P [] y y rfl
    (Fin.forall_fin_two.mpr ⟨(Nat.zero_add _).symm, (Nat.zero_add _).symm⟩)

/-- A load of one middle index of a rank-three array: column `k` of the second axis. -/
theorem load_head {m : Memref sig .tc .vmem S128x4x16 e} (h : m.IsWhole) (X : S128x4x16.Idx → Elt F e) (k : Fin 4)
    {off : Fin 3 → ℕ} (ho : off = ![0, k.val, 0])
    (inb : ∀ a : Fin 3, off a + S128x1x16.size a ≤ S128x4x16.size a) :
    View.readAt (Elt F) m.view (Rect.unit (s := S128x4x16) off S128x1x16.size inb).toLoadRect (h.unread X)
      = fun y : S128x1x16.Idx => X (ix3 (y 0) k (y 2)) := by
  subst ho
  rw [View.readAt_eq_ld, h.read_unread]
  funext y
  refine View.ld_unit_apply_of X _ _ inb y _ (fun a => ?_)
  match a with
  | 0 => exact (Nat.zero_add _).symm
  | 1 => show k.val = k.val + (y 1).val
         have h1 : (y 1).val < 1 := (y 1).isLt
         omega
  | 2 => exact (Nat.zero_add _).symm

/-- A load of one row of a four-row array. -/
theorem load_row {m : Memref sig .tc .vmem S4x16 e} (h : m.IsWhole) (X : S4x16.Idx → Elt F e) (k : Fin 4)
    {off : Fin 2 → ℕ} (ho : off = ![k.val, 0])
    (inb : ∀ a : Fin 2, off a + S1x16.size a ≤ S4x16.size a) :
    View.readAt (Elt F) m.view (Rect.unit (s := S4x16) off S1x16.size inb).toLoadRect (h.unread X)
      = fun y : S1x16.Idx => X (ix2 k (y 1)) := by
  subst ho
  rw [View.readAt_eq_ld, h.read_unread]
  funext y
  refine View.ld_unit_apply_of X _ _ inb y _ (Fin.forall_fin_two.mpr ⟨?_, (Nat.zero_add _).symm⟩)
  show k.val = k.val + (y 0).val
  have h1 : (y 0).val < 1 := (y 0).isLt
  omega

end Views

/-! ## The schedule: which branch a grid point takes, and the block it works on -/

/-- The block index of a point of the second phase (points 1 and 2) or the third (points 3 and 4). -/
def blkOf (t : Fin grid0.N) : Fin 2 := ⟨(t.val + 1) % 2, Nat.mod_lt _ (by decide)⟩

/-- The first branch is taken at point 0 only. -/
theorem cond1_iff : ∀ t : Fin grid0.N, k0_cond1 (grid0.coords t) = 1#1 ↔ t.val ≠ 0 := by decide +kernel

/-- Past point 0, the last branch is taken from point 3 on. -/
theorem cond2_iff : ∀ t : Fin grid0.N, t.val ≠ 0 → (k0_cond2 (grid0.coords t) = 1#1 ↔ 3 ≤ t.val) := by decide +kernel

theorem off1_eq : ∀ t : Fin grid0.N, 3 ≤ t.val → k0_off1 (grid0.coords t) = ![1024 * (blkOf t).val, 0] := by
  decide +kernel
theorem off2_eq : ∀ t : Fin grid0.N, 3 ≤ t.val → k0_off2 (grid0.coords t) = ![1024 * (blkOf t).val, 0] := by
  decide +kernel
theorem off3_eq : ∀ t : Fin grid0.N, t.val ≠ 0 → k0_off3 (grid0.coords t) = ![1024 * (blkOf t).val, 0] := by
  decide +kernel
theorem off4_eq : ∀ t : Fin grid0.N, t.val ≠ 0 → k0_off4 (grid0.coords t) = ![1024 * (blkOf t).val, 0] := by
  decide +kernel
theorem off5_eq : ∀ t : Fin grid0.N, t.val ≠ 0 → k0_off5 (grid0.coords t) = ![1024 * (blkOf t).val, 0] := by
  decide +kernel
theorem off6_eq : ∀ t : Fin grid0.N, t.val ≠ 0 → k0_off6 (grid0.coords t) = ![1024 * (blkOf t).val, 0] := by
  decide +kernel
theorem off7_eq : ∀ t : Fin grid0.N, t.val ≠ 0 → k0_off7 (grid0.coords t) = ![1024 * (blkOf t).val, 0] := by
  decide +kernel
theorem off8_eq : ∀ t : Fin grid0.N, t.val ≠ 0 → k0_off8 (grid0.coords t) = ![0, 1024 * (blkOf t).val] := by
  decide +kernel

end Cert.KernelIdeal.Proof

end
-- ==== Proof.Values.lean ====
module

public import proofs.«01_k».proof.Proof.Common

/-!
What the kernel keeps in its scratch arrays and puts into its result, as functions of its thirteen arguments: the
first phase's tables, the second phase's blocks of the hidden layer, the third phase's blocks of the result. Each is
the kernel's own stored value, composed over the grid points that feed it.
-/

@[expose] public section

set_option maxRecDepth 16384

noncomputable section

namespace Cert.KernelIdeal.Proof

open Cert.KernelIdeal Cert.KernelIdeal.Gen
open Idealize.ShloMosaic

/-- The contents of the thirteen argument arrays. -/
structure Args (F : FTy → Type) where
  x : Vec F S2048x128 .f32
  a : Vec F S2048x2048 .f32
  lay : Vec F S2048x5 .f32
  k1 : Vec F S128x4x16 .f32
  as1 : Vec F S4x16 .f32
  an1 : Vec F S4x16 .f32
  b1 : Vec F S64 .f32
  wl : Vec F S5x64 .f32
  bl : Vec F S64 .f32
  k2 : Vec F S64x1x1000 .f32
  as2 : Vec F S1x1000 .f32
  an2 : Vec F S1x1000 .f32
  b2 : Vec F S1000 .f32

namespace Args

variable {F : FTy → Type} [FloatOps F] (A : Args F)

/-- Head `h` of the first layer's weights. -/
def kh (h : Fin 4) : Vec F S128x1x16 .f32 := fun y => A.k1 (ix3 (y 0) h (y 2))
/-- Head `h` of the first layer's attention vector for the row side. -/
def sh (h : Fin 4) : Vec F S1x16 .f32 := fun y => A.as1 (ix2 h (y 1))
/-- Head `h` of the first layer's attention vector for the column side. -/
def nh (h : Fin 4) : Vec F S1x16 .f32 := fun y => A.an1 (ix2 h (y 1))

/-! ### The first phase -/

/-- The four heads of `x` times the weights, each followed by a column of ones and seven of zeros. -/
def haug : Vec F S2048x96 .bf16 :=
  k0_pay31 A.x k0_pay19 k0_pay20 (k0_pay21 A.x (A.kh 0)) (k0_pay24 A.x (A.kh 1)) (k0_pay27 A.x (A.kh 2)) (A.kh 3)

/-- The row factor of the exponentials, on the branch of slope one. -/
def ea : Vec F S2048x4 .f32 :=
  k0_pay36 A.x (k0_pay22 A.x (A.kh 0) (A.sh 0)) (k0_pay23 A.x (A.kh 0) (A.nh 0))
    (k0_pay25 A.x (A.kh 1) (A.sh 1)) (k0_pay26 A.x (A.kh 1) (A.nh 1))
    (k0_pay28 A.x (A.kh 2) (A.sh 2)) (k0_pay29 A.x (A.kh 2) (A.nh 2)) (A.kh 3) (A.sh 3) (A.nh 3)

/-- The row factor of the exponentials, on the branch of the smaller slope. -/
def eb : Vec F S2048x4 .f32 :=
  k0_pay4 (k0_pay37 A.x (k0_pay22 A.x (A.kh 0) (A.sh 0)) (k0_pay23 A.x (A.kh 0) (A.nh 0))
    (k0_pay25 A.x (A.kh 1) (A.sh 1)) (k0_pay26 A.x (A.kh 1) (A.nh 1))
    (k0_pay28 A.x (A.kh 2) (A.sh 2)) (k0_pay29 A.x (A.kh 2) (A.nh 2)) (A.kh 3) (A.sh 3) (A.nh 3))

/-- The column-side logits of the four heads. -/
def t1 : FVec F S4x2048 .f32 :=
  k0_pay33 A.x (k0_pay23 A.x (A.kh 0) (A.nh 0)) (k0_pay26 A.x (A.kh 1) (A.nh 1)) (k0_pay29 A.x (A.kh 2) (A.nh 2))
    (A.kh 3) (A.nh 3)

/-- Their maxima, head by head. -/
def t1max : FVec F S4x1 .f32 :=
  k0_pay34 A.x (k0_pay23 A.x (A.kh 0) (A.nh 0)) (k0_pay26 A.x (A.kh 1) (A.nh 1)) (k0_pay29 A.x (A.kh 2) (A.nh 2))
    (A.kh 3) (A.nh 3)

/-- The column factor of the exponentials, on the branch of slope one. -/
def et : Vec F S4x2048 .f32 := k0_pay5 A.t1 A.t1max
/-- The column factor of the exponentials, on the branch of the smaller slope. -/
def ef : Vec F S4x2048 .f32 := k0_pay6 A.t1 A.t1max
/-- The embedded layout. -/
def lemb : Vec F S2048x64 .f32 := k0_pay7 A.lay A.wl A.bl

/-! ### The second phase, block by block -/

/-- Block `j` of the mask, in the narrow format. -/
def abfBlk (j : Fin 2) : Vec F S1024x2048 .bf16 := k0_pay10 (rowBlk j A.a)

/-- Block `j` of the hidden layer times the second layer's weights. -/
def h2b (j : Fin 2) : FVec F S1024x1000 .f32 :=
  k0_pay16 (k0_pay9 (rowBlk j A.a)) A.haug
    (k0_pay12 (k0_pay9 (rowBlk j A.a)) A.haug (k0_pay11 (rowBlk j A.ea) (rowBlk j A.eb) A.et A.ef))
    (k0_pay13 (k0_pay9 (rowBlk j A.a)) (rowBlk j A.ea) (rowBlk j A.eb) A.et A.ef A.haug)
    (k0_pay14 (k0_pay9 (rowBlk j A.a)) (rowBlk j A.ea) (rowBlk j A.eb) A.et A.ef A.haug)
    (k0_pay15 (rowBlk j A.ea) (rowBlk j A.eb) A.et A.ef) A.b1 (rowBlk j A.lemb) A.k2

/-- The same followed by a column of ones and 23 of zeros, in the narrow format. -/
def h2Blk (j : Fin 2) : Vec F S1024x1024 .bf16 :=
  k0_pay17 (k0_pay9 (rowBlk j A.a)) A.haug
    (k0_pay12 (k0_pay9 (rowBlk j A.a)) A.haug (k0_pay11 (rowBlk j A.ea) (rowBlk j A.eb) A.et A.ef))
    (k0_pay13 (k0_pay9 (rowBlk j A.a)) (rowBlk j A.ea) (rowBlk j A.eb) A.et A.ef A.haug)
    (k0_pay14 (k0_pay9 (rowBlk j A.a)) (rowBlk j A.ea) (rowBlk j A.eb) A.et A.ef A.haug)
    (k0_pay15 (rowBlk j A.ea) (rowBlk j A.eb) A.et A.ef) A.b1 (rowBlk j A.lemb) A.k2

/-- Block `j` of the second layer's row-side logits. -/
def s2Blk (j : Fin 2) : Vec F S1024x1 .f32 :=
  k0_pay2 (k0_pay18 (k0_pay9 (rowBlk j A.a)) A.haug
    (k0_pay12 (k0_pay9 (rowBlk j A.a)) A.haug (k0_pay11 (rowBlk j A.ea) (rowBlk j A.eb) A.et A.ef))
    (k0_pay13 (k0_pay9 (rowBlk j A.a)) (rowBlk j A.ea) (rowBlk j A.eb) A.et A.ef A.haug)
    (k0_pay14 (k0_pay9 (rowBlk j A.a)) (rowBlk j A.ea) (rowBlk j A.eb) A.et A.ef A.haug)
    (k0_pay15 (rowBlk j A.ea) (rowBlk j A.eb) A.et A.ef) A.b1 (rowBlk j A.lemb) A.k2 A.as2)

/-- Block `j` of the second layer's column-side logits. -/
def t2Blk (j : Fin 2) : Vec F S1x1024 .f32 := k0_pay3 (A.h2b j) A.an2

/-- The whole mask, hidden layer and logits, glued from their blocks. -/
def abf : Vec F S2048x2048 .bf16 := glueRows A.abfBlk
def h2 : Vec F S2048x1024 .bf16 := glueRows A.h2Blk
def s2 : Vec F S2048x1 .f32 := glueRows A.s2Blk
def t2 : Vec F S1x2048 .f32 := glueCols A.t2Blk

/-! ### The third phase -/

/-- Block `j` of the result. -/
def outBlk (j : Fin 2) : Vec F S1024x1000 .f32 :=
  k0_pay1 A.h2 (k0_pay8 (rowBlk j A.s2) A.t2) (rowBlk j A.abf) A.b2

/-- The result. -/
def out : Vec F S2048x1000 .f32 := glueRows A.outBlk

end Args

end Cert.KernelIdeal.Proof

end
-- ==== Proof.Setup.lean ====
module

public import proofs.«01_k».proof.Proof.Values

/-!
The first phase of the kernel: the tables every later point reads.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- Run at a point of the first phase, the body fills the six tables and leaves everything it reads as it was. -/
theorem setup_run (c : Dev nD) (i : grid0.Coords)
    (arg1 : Memref sig .tc .vmem S2048x128 .f32) (harg1 : arg1.IsWhole) (arg2 : Memref sig .tc .vmem S1024x2048 .f32) (harg2 : arg2.IsWhole) (arg3 : Memref sig .tc .vmem S2048x5 .f32) (harg3 : arg3.IsWhole) (arg4 : Memref sig .tc .vmem S128x4x16 .f32) (harg4 : arg4.IsWhole) (arg5 : Memref sig .tc .vmem S4x16 .f32) (harg5 : arg5.IsWhole) (arg6 : Memref sig .tc .vmem S4x16 .f32) (harg6 : arg6.IsWhole) (arg7 : Memref sig .tc .vmem S64 .f32) (harg7 : arg7.IsWhole) (arg8 : Memref sig .tc .vmem S5x64 .f32) (harg8 : arg8.IsWhole) (arg9 : Memref sig .tc .vmem S64 .f32) (harg9 : arg9.IsWhole) (arg10 : Memref sig .tc .vmem S64x1x1000 .f32) (harg10 : arg10.IsWhole) (arg11 : Memref sig .tc .vmem S1x1000 .f32) (harg11 : arg11.IsWhole) (arg12 : Memref sig .tc .vmem S1x1000 .f32) (harg12 : arg12.IsWhole) (arg13 : Memref sig .tc .vmem S1000 .f32) (harg13 : arg13.IsWhole) (arg14 : Memref sig .tc .vmem S1024x1000 .f32) (harg14 : arg14.IsWhole) (arg15 : Memref sig .tc .vmem S2048x2048 .bf16) (harg15 : arg15.IsWhole) (arg16 : Memref sig .tc .vmem S2048x1024 .bf16) (harg16 : arg16.IsWhole) (arg17 : Memref sig .tc .vmem S2048x96 .bf16) (harg17 : arg17.IsWhole) (arg18 : Memref sig .tc .vmem S2048x4 .f32) (harg18 : arg18.IsWhole) (arg19 : Memref sig .tc .vmem S2048x4 .f32) (harg19 : arg19.IsWhole) (arg20 : Memref sig .tc .vmem S4x2048 .f32) (harg20 : arg20.IsWhole) (arg21 : Memref sig .tc .vmem S4x2048 .f32) (harg21 : arg21.IsWhole) (arg22 : Memref sig .tc .vmem S2048x64 .f32) (harg22 : arg22.IsWhole) (arg23 : Memref sig .tc .vmem S2048x1 .f32) (harg23 : arg23.IsWhole) (arg24 : Memref sig .tc .vmem S1x2048 .f32) (harg24 : arg24.IsWhole)
    (hc1 : ¬ k0_cond1 i = 1#1)
    (A : Args F)
    (E : Set ℕ) (K : PUnit → sProp 𝕄) :
    iprop(owns (c : Thread nD τ) arg1 fullShare A.x
        ∗ owns (c : Thread nD τ) arg3 fullShare A.lay
        ∗ owns (c : Thread nD τ) arg4 fullShare A.k1
        ∗ owns (c : Thread nD τ) arg5 fullShare A.as1
        ∗ owns (c : Thread nD τ) arg6 fullShare A.an1
        ∗ owns (c : Thread nD τ) arg8 fullShare A.wl
        ∗ owns (c : Thread nD τ) arg9 fullShare A.bl
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (iprop(owns (c : Thread nD τ) arg1 fullShare A.x
        ∗ owns (c : Thread nD τ) arg3 fullShare A.lay
        ∗ owns (c : Thread nD τ) arg4 fullShare A.k1
        ∗ owns (c : Thread nD τ) arg5 fullShare A.as1
        ∗ owns (c : Thread nD τ) arg6 fullShare A.an1
        ∗ owns (c : Thread nD τ) arg8 fullShare A.wl
        ∗ owns (c : Thread nD τ) arg9 fullShare A.bl
        ∗ owns (c : Thread nD τ) arg17 fullShare A.haug
        ∗ owns (c : Thread nD τ) arg18 fullShare A.ea
        ∗ owns (c : Thread nD τ) arg19 fullShare A.eb
        ∗ owns (c : Thread nD τ) arg20 fullShare A.et
        ∗ owns (c : Thread nD τ) arg21 fullShare A.ef
        ∗ owns (c : Thread nD τ) arg22 fullShare A.lemb) -∗ K ⟨⟩))
      ⊢ wp frame (wpE (defs₀ (F := F)) Variants.none c none) E
        (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  unfold owns
  iintro ⟨⟨%f1, %hf1, H1⟩, ⟨%f3, %hf3, H3⟩, ⟨%f4, %hf4, H4⟩, ⟨%f5, %hf5, H5⟩, ⟨%f6, %hf6, H6⟩, ⟨%f8, %hf8, H8⟩, ⟨%f9, %hf9, H9⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf1
  obtain rfl := harg3.eq_unread hf3
  obtain rfl := harg4.eq_unread hf4
  obtain rfl := harg5.eq_unread hf5
  obtain rfl := harg6.eq_unread hf6
  obtain rfl := harg8.eq_unread hf8
  obtain rfl := harg9.eq_unread hf9
  sl_exec (disch := first | sl_exact hc1)
  sl_step
  have hk0 := load_head harg4 A.k1 0 (off := ![0, 0, 0]) rfl inb_S128x4x16_S128x1x16_0_0_0
  have hs0 := load_row harg5 A.as1 0 (off := ![0, 0]) rfl inb_S4x16_S1x16_0_0
  have hn0 := load_row harg6 A.an1 0 (off := ![0, 0]) rfl inb_S4x16_S1x16_0_0
  have hk1 := load_head harg4 A.k1 1 (off := ![0, 1, 0]) rfl inb_S128x4x16_S128x1x16_0_1_0
  have hs1 := load_row harg5 A.as1 1 (off := ![1, 0]) rfl inb_S4x16_S1x16_1_0
  have hn1 := load_row harg6 A.an1 1 (off := ![1, 0]) rfl inb_S4x16_S1x16_1_0
  have hk2 := load_head harg4 A.k1 2 (off := ![0, 2, 0]) rfl inb_S128x4x16_S128x1x16_0_2_0
  have hs2 := load_row harg5 A.as1 2 (off := ![2, 0]) rfl inb_S4x16_S1x16_2_0
  have hn2 := load_row harg6 A.an1 2 (off := ![2, 0]) rfl inb_S4x16_S1x16_2_0
  have hk3 := load_head harg4 A.k1 3 (off := ![0, 3, 0]) rfl inb_S128x4x16_S128x1x16_0_3_0
  have hs3 := load_row harg5 A.as1 3 (off := ![3, 0]) rfl inb_S4x16_S1x16_3_0
  have hn3 := load_row harg6 A.an1 3 (off := ![3, 0]) rfl inb_S4x16_S1x16_3_0
  have hx := load_whole2 harg1 A.x inb_S2048x128_S2048x128_0_0
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H9]
  · iexists _; isplitr; · ipureintro; exact harg9.read_unread _
    iexact H9
  isplitl [H17]
  · iexists _; isplitr; swap; · iexact H17
    ipureintro
    refine (store_whole2 _ _ _).trans ?_
    (try unfold setup_run.sl.r_12) ; (try unfold setup_run.sl.r_11) ; (try unfold setup_run.sl.r_10) ; (try unfold setup_run.sl.r_9) ; (try unfold setup_run.sl.r_8) ; (try unfold setup_run.sl.r_7) ; (try unfold setup_run.sl.r_6) ; (try unfold setup_run.sl.r_5) ; (try unfold setup_run.sl.r_4) ; (try unfold setup_run.sl.r_3) ; (try unfold setup_run.sl.r_2) ; (try unfold setup_run.sl.r_1) ; (try unfold setup_run.sl.r)
    simp only [hk0, hs0, hn0, hk1, hs1, hn1, hk2, hs2, hn2, hk3, hs3, hn3, hx]
    unfold Args.haug Args.kh
    rfl
  isplitl [H18]
  · iexists _; isplitr; swap; · iexact H18
    ipureintro
    refine (store_whole2 _ _ _).trans ?_
    (try unfold setup_run.sl.r_12) ; (try unfold setup_run.sl.r_11) ; (try unfold setup_run.sl.r_10) ; (try unfold setup_run.sl.r_9) ; (try unfold setup_run.sl.r_8) ; (try unfold setup_run.sl.r_7) ; (try unfold setup_run.sl.r_6) ; (try unfold setup_run.sl.r_5) ; (try unfold setup_run.sl.r_4) ; (try unfold setup_run.sl.r_3) ; (try unfold setup_run.sl.r_2) ; (try unfold setup_run.sl.r_1) ; (try unfold setup_run.sl.r)
    simp only [hk0, hs0, hn0, hk1, hs1, hn1, hk2, hs2, hn2, hk3, hs3, hn3, hx]
    unfold Args.ea Args.kh Args.sh Args.nh
    rfl
  isplitl [H19]
  · iexists _; isplitr; swap; · iexact H19
    ipureintro
    refine (store_whole2 _ _ _).trans ?_
    (try unfold setup_run.sl.r_12) ; (try unfold setup_run.sl.r_11) ; (try unfold setup_run.sl.r_10) ; (try unfold setup_run.sl.r_9) ; (try unfold setup_run.sl.r_8) ; (try unfold setup_run.sl.r_7) ; (try unfold setup_run.sl.r_6) ; (try unfold setup_run.sl.r_5) ; (try unfold setup_run.sl.r_4) ; (try unfold setup_run.sl.r_3) ; (try unfold setup_run.sl.r_2) ; (try unfold setup_run.sl.r_1) ; (try unfold setup_run.sl.r)
    simp only [hk0, hs0, hn0, hk1, hs1, hn1, hk2, hs2, hn2, hk3, hs3, hn3, hx]
    unfold Args.eb Args.kh Args.sh Args.nh
    rfl
  isplitl [H20]
  · iexists _; isplitr; swap; · iexact H20
    ipureintro
    refine (store_whole2 _ _ _).trans ?_
    (try unfold setup_run.sl.r_12) ; (try unfold setup_run.sl.r_11) ; (try unfold setup_run.sl.r_10) ; (try unfold setup_run.sl.r_9) ; (try unfold setup_run.sl.r_8) ; (try unfold setup_run.sl.r_7) ; (try unfold setup_run.sl.r_6) ; (try unfold setup_run.sl.r_5) ; (try unfold setup_run.sl.r_4) ; (try unfold setup_run.sl.r_3) ; (try unfold setup_run.sl.r_2) ; (try unfold setup_run.sl.r_1) ; (try unfold setup_run.sl.r)
    simp only [hk0, hs0, hn0, hk1, hs1, hn1, hk2, hs2, hn2, hk3, hs3, hn3, hx]
    unfold Args.et Args.t1 Args.t1max Args.kh Args.nh
    rfl
  isplitl [H21]
  · iexists _; isplitr; swap; · iexact H21
    ipureintro
    refine (store_whole2 _ _ _).trans ?_
    (try unfold setup_run.sl.r_12) ; (try unfold setup_run.sl.r_11) ; (try unfold setup_run.sl.r_10) ; (try unfold setup_run.sl.r_9) ; (try unfold setup_run.sl.r_8) ; (try unfold setup_run.sl.r_7) ; (try unfold setup_run.sl.r_6) ; (try unfold setup_run.sl.r_5) ; (try unfold setup_run.sl.r_4) ; (try unfold setup_run.sl.r_3) ; (try unfold setup_run.sl.r_2) ; (try unfold setup_run.sl.r_1) ; (try unfold setup_run.sl.r)
    simp only [hk0, hs0, hn0, hk1, hs1, hn1, hk2, hs2, hn2, hk3, hs3, hn3, hx]
    unfold Args.ef Args.t1 Args.t1max Args.kh Args.nh
    rfl
  iexists _; isplitr; swap; · iexact H22
  ipureintro
  refine (store_whole2 _ _ _).trans ?_
  rw [load_whole2 harg3, load_whole2 harg8, load_whole1 harg9]
  rfl

end Cert.KernelIdeal.Proof

end
-- ==== Proof.PhaseA.lean ====
module

public import proofs.«01_k».proof.Proof.Values

/-!
The second phase of the kernel: one block of the mask, of the hidden layer and of the second layer's logits.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- Run at a point of the second phase that works on block `j`, the body writes block `j` of the four arrays the third phase reads, and leaves everything else as it was. -/
theorem phaseA_run (c : Dev nD) (i : grid0.Coords)
    (arg1 : Memref sig .tc .vmem S2048x128 .f32) (harg1 : arg1.IsWhole) (arg2 : Memref sig .tc .vmem S1024x2048 .f32) (harg2 : arg2.IsWhole) (arg3 : Memref sig .tc .vmem S2048x5 .f32) (harg3 : arg3.IsWhole) (arg4 : Memref sig .tc .vmem S128x4x16 .f32) (harg4 : arg4.IsWhole) (arg5 : Memref sig .tc .vmem S4x16 .f32) (harg5 : arg5.IsWhole) (arg6 : Memref sig .tc .vmem S4x16 .f32) (harg6 : arg6.IsWhole) (arg7 : Memref sig .tc .vmem S64 .f32) (harg7 : arg7.IsWhole) (arg8 : Memref sig .tc .vmem S5x64 .f32) (harg8 : arg8.IsWhole) (arg9 : Memref sig .tc .vmem S64 .f32) (harg9 : arg9.IsWhole) (arg10 : Memref sig .tc .vmem S64x1x1000 .f32) (harg10 : arg10.IsWhole) (arg11 : Memref sig .tc .vmem S1x1000 .f32) (harg11 : arg11.IsWhole) (arg12 : Memref sig .tc .vmem S1x1000 .f32) (harg12 : arg12.IsWhole) (arg13 : Memref sig .tc .vmem S1000 .f32) (harg13 : arg13.IsWhole) (arg14 : Memref sig .tc .vmem S1024x1000 .f32) (harg14 : arg14.IsWhole) (arg15 : Memref sig .tc .vmem S2048x2048 .bf16) (harg15 : arg15.IsWhole) (arg16 : Memref sig .tc .vmem S2048x1024 .bf16) (harg16 : arg16.IsWhole) (arg17 : Memref sig .tc .vmem S2048x96 .bf16) (harg17 : arg17.IsWhole) (arg18 : Memref sig .tc .vmem S2048x4 .f32) (harg18 : arg18.IsWhole) (arg19 : Memref sig .tc .vmem S2048x4 .f32) (harg19 : arg19.IsWhole) (arg20 : Memref sig .tc .vmem S4x2048 .f32) (harg20 : arg20.IsWhole) (arg21 : Memref sig .tc .vmem S4x2048 .f32) (harg21 : arg21.IsWhole) (arg22 : Memref sig .tc .vmem S2048x64 .f32) (harg22 : arg22.IsWhole) (arg23 : Memref sig .tc .vmem S2048x1 .f32) (harg23 : arg23.IsWhole) (arg24 : Memref sig .tc .vmem S1x2048 .f32) (harg24 : arg24.IsWhole)
    (j : Fin 2) (hc1 : k0_cond1 i = 1#1) (hc2 : ¬ k0_cond2 i = 1#1)
    (ho3 : k0_off3 i = ![1024 * j.val, 0]) (ho4 : k0_off4 i = ![1024 * j.val, 0]) (ho5 : k0_off5 i = ![1024 * j.val, 0]) (ho6 : k0_off6 i = ![1024 * j.val, 0]) (ho7 : k0_off7 i = ![1024 * j.val, 0])
    (ho8 : k0_off8 i = ![0, 1024 * j.val])
    (A : Args F) (x15 : Vec F S2048x2048 .bf16) (x16 : Vec F S2048x1024 .bf16) (x23 : Vec F S2048x1 .f32) (x24 : Vec F S1x2048 .f32)
    (E : Set ℕ) (K : PUnit → sProp 𝕄) :
    iprop(owns (c : Thread nD τ) arg2 fullShare (rowBlk j A.a)
        ∗ owns (c : Thread nD τ) arg7 fullShare A.b1
        ∗ owns (c : Thread nD τ) arg10 fullShare A.k2
        ∗ owns (c : Thread nD τ) arg11 fullShare A.as2
        ∗ owns (c : Thread nD τ) arg12 fullShare A.an2
        ∗ owns (c : Thread nD τ) arg15 fullShare x15
        ∗ owns (c : Thread nD τ) arg16 fullShare x16
        ∗ owns (c : Thread nD τ) arg17 fullShare A.haug
        ∗ owns (c : Thread nD τ) arg18 fullShare A.ea
        ∗ owns (c : Thread nD τ) arg19 fullShare A.eb
        ∗ owns (c : Thread nD τ) arg20 fullShare A.et
        ∗ owns (c : Thread nD τ) arg21 fullShare A.ef
        ∗ owns (c : Thread nD τ) arg22 fullShare A.lemb
        ∗ owns (c : Thread nD τ) arg23 fullShare x23
        ∗ owns (c : Thread nD τ) arg24 fullShare x24
        ∗ (iprop(owns (c : Thread nD τ) arg2 fullShare (rowBlk j A.a)
        ∗ owns (c : Thread nD τ) arg7 fullShare A.b1
        ∗ owns (c : Thread nD τ) arg10 fullShare A.k2
        ∗ owns (c : Thread nD τ) arg11 fullShare A.as2
        ∗ owns (c : Thread nD τ) arg12 fullShare A.an2
        ∗ owns (c : Thread nD τ) arg15 fullShare (putRows j (A.abfBlk j) x15)
        ∗ owns (c : Thread nD τ) arg16 fullShare (putRows j (A.h2Blk j) x16)
        ∗ owns (c : Thread nD τ) arg17 fullShare A.haug
        ∗ owns (c : Thread nD τ) arg18 fullShare A.ea
        ∗ owns (c : Thread nD τ) arg19 fullShare A.eb
        ∗ owns (c : Thread nD τ) arg20 fullShare A.et
        ∗ owns (c : Thread nD τ) arg21 fullShare A.ef
        ∗ owns (c : Thread nD τ) arg22 fullShare A.lemb
        ∗ owns (c : Thread nD τ) arg23 fullShare (putRows j (A.s2Blk j) x23)
        ∗ owns (c : Thread nD τ) arg24 fullShare (putCols j (A.t2Blk j) x24)) -∗ K ⟨⟩))
      ⊢ wp frame (wpE (defs₀ (F := F)) Variants.none c none) E
        (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  unfold owns
  iintro ⟨⟨%f2, %hf2, H2⟩, ⟨%f7, %hf7, H7⟩, ⟨%f10, %hf10, H10⟩, ⟨%f11, %hf11, H11⟩, ⟨%f12, %hf12, H12⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  obtain rfl := harg2.eq_unread hf2
  obtain rfl := harg7.eq_unread hf7
  obtain rfl := harg10.eq_unread hf10
  obtain rfl := harg11.eq_unread hf11
  obtain rfl := harg12.eq_unread hf12
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  obtain rfl := harg23.eq_unread hf23
  obtain rfl := harg24.eq_unread hf24
  sl_exec (disch := first | sl_exact hc1 | sl_exact hc2)
  sl_step
  have h2 := load_whole2 harg2 (rowBlk j A.a) inb_S1024x2048_S1024x2048_0_0
  have h7 := load_whole1 harg7 A.b1 inb_S64_S64_0
  have h10 := load_whole3 harg10 A.k2 inb_S64x1x1000_S64x1x1000_0_0_0
  have h11 := load_whole2 harg11 A.as2 inb_S1x1000_S1x1000_0_0
  have h12 := load_whole2 harg12 A.an2 inb_S1x1000_S1x1000_0_0
  have h17 := load_whole2 harg17 A.haug inb_S2048x96_S2048x96_0_0
  have h18 := load_rows harg18 A.ea j ho4 (k0_off4_inb i hc1 hc2)
  have h19 := load_rows harg19 A.eb j ho4 (k0_off4_inb i hc1 hc2)
  have h20 := load_whole2 harg20 A.et inb_S4x2048_S4x2048_0_0
  have h21 := load_whole2 harg21 A.ef inb_S4x2048_S4x2048_0_0
  have h22 := load_rows harg22 A.lemb j ho5 (k0_off5_inb i hc1 hc2)
  iapply Hk
  isplitl [H2]
  · iexists _; isplitr; · ipureintro; exact harg2.read_unread _
    iexact H2
  isplitl [H7]
  · iexists _; isplitr; · ipureintro; exact harg7.read_unread _
    iexact H7
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H15]
  · iexists _; isplitr; swap; · iexact H15
    ipureintro
    refine (store_rows harg15 _ j ho3 _ _).trans ?_
    (try unfold phaseA_run.sl.r_13) ; (try unfold phaseA_run.sl.r_12) ; (try unfold phaseA_run.sl.r_11) ; (try unfold phaseA_run.sl.r_10) ; (try unfold phaseA_run.sl.r_9) ; (try unfold phaseA_run.sl.r_8) ; (try unfold phaseA_run.sl.r_7) ; (try unfold phaseA_run.sl.r_6) ; (try unfold phaseA_run.sl.r_5) ; (try unfold phaseA_run.sl.r_4) ; (try unfold phaseA_run.sl.r_3) ; (try unfold phaseA_run.sl.r_2) ; (try unfold phaseA_run.sl.r_1) ; (try unfold phaseA_run.sl.r)
    simp only [h2, h7, h10, h11, h12, h17, h18, h19, h20, h21, h22]
    unfold Args.abfBlk
    rfl
  isplitl [H16]
  · iexists _; isplitr; swap; · iexact H16
    ipureintro
    refine (store_rows harg16 _ j ho6 _ _).trans ?_
    (try unfold phaseA_run.sl.r_13) ; (try unfold phaseA_run.sl.r_12) ; (try unfold phaseA_run.sl.r_11) ; (try unfold phaseA_run.sl.r_10) ; (try unfold phaseA_run.sl.r_9) ; (try unfold phaseA_run.sl.r_8) ; (try unfold phaseA_run.sl.r_7) ; (try unfold phaseA_run.sl.r_6) ; (try unfold phaseA_run.sl.r_5) ; (try unfold phaseA_run.sl.r_4) ; (try unfold phaseA_run.sl.r_3) ; (try unfold phaseA_run.sl.r_2) ; (try unfold phaseA_run.sl.r_1) ; (try unfold phaseA_run.sl.r)
    simp only [h2, h7, h10, h11, h12, h17, h18, h19, h20, h21, h22]
    unfold Args.h2Blk
    rfl
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; swap; · iexact H23
    ipureintro
    refine (store_rows harg23 _ j ho7 _ _).trans ?_
    (try unfold phaseA_run.sl.r_13) ; (try unfold phaseA_run.sl.r_12) ; (try unfold phaseA_run.sl.r_11) ; (try unfold phaseA_run.sl.r_10) ; (try unfold phaseA_run.sl.r_9) ; (try unfold phaseA_run.sl.r_8) ; (try unfold phaseA_run.sl.r_7) ; (try unfold phaseA_run.sl.r_6) ; (try unfold phaseA_run.sl.r_5) ; (try unfold phaseA_run.sl.r_4) ; (try unfold phaseA_run.sl.r_3) ; (try unfold phaseA_run.sl.r_2) ; (try unfold phaseA_run.sl.r_1) ; (try unfold phaseA_run.sl.r)
    simp only [h2, h7, h10, h11, h12, h17, h18, h19, h20, h21, h22]
    unfold Args.s2Blk
    rfl
  iexists _; isplitr; swap; · iexact H24
  ipureintro
  refine (store_cols harg24 _ j ho8 _ _).trans ?_
  (try unfold phaseA_run.sl.r_13) ; (try unfold phaseA_run.sl.r_12) ; (try unfold phaseA_run.sl.r_11) ; (try unfold phaseA_run.sl.r_10) ; (try unfold phaseA_run.sl.r_9) ; (try unfold phaseA_run.sl.r_8) ; (try unfold phaseA_run.sl.r_7) ; (try unfold phaseA_run.sl.r_6) ; (try unfold phaseA_run.sl.r_5) ; (try unfold phaseA_run.sl.r_4) ; (try unfold phaseA_run.sl.r_3) ; (try unfold phaseA_run.sl.r_2) ; (try unfold phaseA_run.sl.r_1) ; (try unfold phaseA_run.sl.r)
  simp only [h2, h7, h10, h11, h12, h17, h18, h19, h20, h21, h22]
  unfold Args.t2Blk Args.h2b
  rfl

end Cert.KernelIdeal.Proof

end
-- ==== Proof.PhaseB.lean ====
module

public import proofs.«01_k».proof.Proof.Values

/-!
The third phase of the kernel: one block of the result from the glued scratch arrays.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- Run at a point of the third phase that works on block `j`, the body stores block `j` of the result and leaves everything it reads as it was. -/
theorem phaseB_run (c : Dev nD) (i : grid0.Coords)
    (arg1 : Memref sig .tc .vmem S2048x128 .f32) (harg1 : arg1.IsWhole) (arg2 : Memref sig .tc .vmem S1024x2048 .f32) (harg2 : arg2.IsWhole) (arg3 : Memref sig .tc .vmem S2048x5 .f32) (harg3 : arg3.IsWhole) (arg4 : Memref sig .tc .vmem S128x4x16 .f32) (harg4 : arg4.IsWhole) (arg5 : Memref sig .tc .vmem S4x16 .f32) (harg5 : arg5.IsWhole) (arg6 : Memref sig .tc .vmem S4x16 .f32) (harg6 : arg6.IsWhole) (arg7 : Memref sig .tc .vmem S64 .f32) (harg7 : arg7.IsWhole) (arg8 : Memref sig .tc .vmem S5x64 .f32) (harg8 : arg8.IsWhole) (arg9 : Memref sig .tc .vmem S64 .f32) (harg9 : arg9.IsWhole) (arg10 : Memref sig .tc .vmem S64x1x1000 .f32) (harg10 : arg10.IsWhole) (arg11 : Memref sig .tc .vmem S1x1000 .f32) (harg11 : arg11.IsWhole) (arg12 : Memref sig .tc .vmem S1x1000 .f32) (harg12 : arg12.IsWhole) (arg13 : Memref sig .tc .vmem S1000 .f32) (harg13 : arg13.IsWhole) (arg14 : Memref sig .tc .vmem S1024x1000 .f32) (harg14 : arg14.IsWhole) (arg15 : Memref sig .tc .vmem S2048x2048 .bf16) (harg15 : arg15.IsWhole) (arg16 : Memref sig .tc .vmem S2048x1024 .bf16) (harg16 : arg16.IsWhole) (arg17 : Memref sig .tc .vmem S2048x96 .bf16) (harg17 : arg17.IsWhole) (arg18 : Memref sig .tc .vmem S2048x4 .f32) (harg18 : arg18.IsWhole) (arg19 : Memref sig .tc .vmem S2048x4 .f32) (harg19 : arg19.IsWhole) (arg20 : Memref sig .tc .vmem S4x2048 .f32) (harg20 : arg20.IsWhole) (arg21 : Memref sig .tc .vmem S4x2048 .f32) (harg21 : arg21.IsWhole) (arg22 : Memref sig .tc .vmem S2048x64 .f32) (harg22 : arg22.IsWhole) (arg23 : Memref sig .tc .vmem S2048x1 .f32) (harg23 : arg23.IsWhole) (arg24 : Memref sig .tc .vmem S1x2048 .f32) (harg24 : arg24.IsWhole)
    (j : Fin 2) (hc1 : k0_cond1 i = 1#1) (hc2 : k0_cond2 i = 1#1)
    (ho1 : k0_off1 i = ![1024 * j.val, 0]) (ho2 : k0_off2 i = ![1024 * j.val, 0])
    (A : Args F)
    (E : Set ℕ) (K : PUnit → sProp 𝕄) :
    iprop(owns (c : Thread nD τ) arg13 fullShare A.b2
        ∗ (∃ d, owns (c : Thread nD τ) arg14 fullShare d)
        ∗ owns (c : Thread nD τ) arg15 fullShare A.abf
        ∗ owns (c : Thread nD τ) arg16 fullShare A.h2
        ∗ owns (c : Thread nD τ) arg23 fullShare A.s2
        ∗ owns (c : Thread nD τ) arg24 fullShare A.t2
        ∗ (iprop(owns (c : Thread nD τ) arg13 fullShare A.b2
        ∗ owns (c : Thread nD τ) arg14 fullShare (A.outBlk j)
        ∗ owns (c : Thread nD τ) arg15 fullShare A.abf
        ∗ owns (c : Thread nD τ) arg16 fullShare A.h2
        ∗ owns (c : Thread nD τ) arg23 fullShare A.s2
        ∗ owns (c : Thread nD τ) arg24 fullShare A.t2) -∗ K ⟨⟩))
      ⊢ wp frame (wpE (defs₀ (F := F)) Variants.none c none) E
        (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  unfold owns
  iintro ⟨⟨%f13, %hf13, H13⟩, ⟨%d14, %f14, -, H14⟩, ⟨%f15, %hf15, H15⟩, ⟨%f16, %hf16, H16⟩, ⟨%f23, %hf23, H23⟩, ⟨%f24, %hf24, H24⟩, Hk⟩
  obtain rfl := harg13.eq_unread hf13
  obtain rfl := harg15.eq_unread hf15
  obtain rfl := harg16.eq_unread hf16
  obtain rfl := harg23.eq_unread hf23
  obtain rfl := harg24.eq_unread hf24
  sl_exec (disch := first | sl_exact hc1 | sl_exact hc2)
  sl_step
  iapply Hk
  isplitl [H13]
  · iexists _; isplitr; · ipureintro; exact harg13.read_unread _
    iexact H13
  isplitl [H14]
  · iexists _; isplitr; swap; · iexact H14
    ipureintro
    refine (store_whole2 _ _ _).trans ?_
    unfold Args.outBlk phaseB_run.sl.r phaseB_run.sl.r_1
    rw [load_whole2 harg16, load_rows harg23 _ j ho1, load_whole2 harg24, load_rows harg15 _ j ho2, load_whole1 harg13]
  isplitl [H15]
  · iexists _; isplitr; · ipureintro; exact harg15.read_unread _
    iexact H15
  isplitl [H16]
  · iexists _; isplitr; · ipureintro; exact harg16.read_unread _
    iexact H16
  isplitl [H23]
  · iexists _; isplitr; · ipureintro; exact harg23.read_unread _
    iexact H23
  iexists _; isplitr; · ipureintro; exact harg24.read_unread _
  iexact H24

end Cert.KernelIdeal.Proof

end
-- ==== Proof.Run.lean ====
module

public import proofs.«01_k».proof.Proof.Setup
public import proofs.«01_k».proof.Proof.PhaseA
public import proofs.«01_k».proof.Proof.PhaseB

/-!
The run of the whole kernel. The arguments are named (`args`), the windows' blocks are read off them, the scratch arrays
are followed from point to point (`Carried`), the three phases are put together into the body's obligation, and the
launch gives what every final state holds.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments, as the launch finds them on core `c`. -/
def args (c : Dev nD) : Args F :=
  { x := V m c main_arg0, a := V m c main_arg1, lay := V m c main_arg2, k1 := V m c main_arg3, as1 := V m c main_arg4, an1 := V m c main_arg5, b1 := V m c main_arg6, wl := V m c main_arg7, bl := V m c main_arg8, k2 := V m c main_arg9, as2 := V m c main_arg10, an2 := V m c main_arg11, b2 := V m c main_arg12 }

/-! ## The windows' blocks -/

/-- Every argument but the mask is handed over whole at every point. -/
theorem idx_whole : ∀ t : Fin cfg0.N, win0_0.index t = ![0, 0] ∧ win0_2.index t = ![0, 0] ∧ win0_3.index t = ![0, 0, 0] ∧ win0_4.index t = ![0, 0] ∧ win0_5.index t = ![0, 0] ∧ win0_6.index t = ![0] ∧ win0_7.index t = ![0, 0] ∧ win0_8.index t = ![0] ∧ win0_9.index t = ![0, 0, 0] ∧ win0_10.index t = ![0, 0] ∧ win0_11.index t = ![0, 0] ∧ win0_12.index t = ![0] :=
  (by decide +kernel : ∀ t : Fin grid0.N, _)

/-- Past the first point the mask is handed over by the block the point works on. -/
theorem idx_mask : ∀ t : Fin cfg0.N, t.val ≠ 0 → win0_1.index t = ![(blkOf t).val, 0] :=
  (by decide +kernel : ∀ t : Fin grid0.N, _)

/-- The result is written by blocks: the first at point 3, the second at point 4. -/
theorem idx_out : ∀ t : Fin cfg0.N, 3 ≤ t.val → win0_13.index t = ![(blkOf t).val, 0] :=
  (by decide +kernel : ∀ t : Fin grid0.N, _)

theorem iblk_0 (c : Dev nD) (t : Fin cfg0.N) : iblk m c 0 t = (args m c).x := by
  funext y; blk_ext [iblk, V, args, idx_whole t]
theorem iblk_2 (c : Dev nD) (t : Fin cfg0.N) : iblk m c 2 t = (args m c).lay := by
  funext y; blk_ext [iblk, V, args, idx_whole t]
theorem iblk_3 (c : Dev nD) (t : Fin cfg0.N) : iblk m c 3 t = (args m c).k1 := by
  funext y; blk_ext [iblk, V, args, idx_whole t]
theorem iblk_4 (c : Dev nD) (t : Fin cfg0.N) : iblk m c 4 t = (args m c).as1 := by
  funext y; blk_ext [iblk, V, args, idx_whole t]
theorem iblk_5 (c : Dev nD) (t : Fin cfg0.N) : iblk m c 5 t = (args m c).an1 := by
  funext y; blk_ext [iblk, V, args, idx_whole t]
theorem iblk_6 (c : Dev nD) (t : Fin cfg0.N) : iblk m c 6 t = (args m c).b1 := by
  funext y; blk_ext [iblk, V, args, idx_whole t]
theorem iblk_7 (c : Dev nD) (t : Fin cfg0.N) : iblk m c 7 t = (args m c).wl := by
  funext y; blk_ext [iblk, V, args, idx_whole t]
theorem iblk_8 (c : Dev nD) (t : Fin cfg0.N) : iblk m c 8 t = (args m c).bl := by
  funext y; blk_ext [iblk, V, args, idx_whole t]
theorem iblk_9 (c : Dev nD) (t : Fin cfg0.N) : iblk m c 9 t = (args m c).k2 := by
  funext y; blk_ext [iblk, V, args, idx_whole t]
theorem iblk_10 (c : Dev nD) (t : Fin cfg0.N) : iblk m c 10 t = (args m c).as2 := by
  funext y; blk_ext [iblk, V, args, idx_whole t]
theorem iblk_11 (c : Dev nD) (t : Fin cfg0.N) : iblk m c 11 t = (args m c).an2 := by
  funext y; blk_ext [iblk, V, args, idx_whole t]
theorem iblk_12 (c : Dev nD) (t : Fin cfg0.N) : iblk m c 12 t = (args m c).b2 := by
  funext y; blk_ext [iblk, V, args, idx_whole t]
theorem iblk_1 (c : Dev nD) (t : Fin cfg0.N) (ht : t.val ≠ 0) : iblk m c 1 t = rowBlk (blkOf t) (args m c).a := by
  funext y; unfold rowBlk; blk_ext [iblk, V, args, idx_mask t ht]

end Cert.KernelIdeal.Proof

end
-- ==== Proof.Launch.lean ====
module

public import proofs.«01_k».proof.Proof.Run

/-!
The body's obligation at every grid point, the launch, and the frame: every execution terminates, the arguments end
unchanged, the counters end at zero, and the result array holds what the third phase's blocks say.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch arrays from point to point -/

abbrev sc0 : Memref sig .tc .vmem S2048x2048 .bf16 := Memref.whole cc0_scratch0
abbrev sc1 : Memref sig .tc .vmem S2048x1024 .bf16 := Memref.whole cc0_scratch1
abbrev sc2 : Memref sig .tc .vmem S2048x96 .bf16 := Memref.whole cc0_scratch2
abbrev sc3 : Memref sig .tc .vmem S2048x4 .f32 := Memref.whole cc0_scratch3
abbrev sc4 : Memref sig .tc .vmem S2048x4 .f32 := Memref.whole cc0_scratch4
abbrev sc5 : Memref sig .tc .vmem S4x2048 .f32 := Memref.whole cc0_scratch5
abbrev sc6 : Memref sig .tc .vmem S4x2048 .f32 := Memref.whole cc0_scratch6
abbrev sc7 : Memref sig .tc .vmem S2048x64 .f32 := Memref.whole cc0_scratch7
abbrev sc8 : Memref sig .tc .vmem S2048x1 .f32 := Memref.whole cc0_scratch8
abbrev sc9 : Memref sig .tc .vmem S1x2048 .f32 := Memref.whole cc0_scratch9

/-- Before the first point the scratch arrays hold anything. -/
theorem PhiA_eq (c : Dev nD) : (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [owns_whole]; try rfl

/-- After point `n`: the six tables are filled, and the four arrays of the second phase hold their first
`1024 * min n 2` rows (columns). -/
def Carried (A : Args F) (c : Dev nD) (n : ℕ) : sProp 𝕄 :=
  iprop(∃ x15 x16 x23 x24, ⌜AgreeRows (1024 * min n 2) x15 A.abf ∧ AgreeRows (1024 * min n 2) x16 A.h2
      ∧ AgreeRows (1024 * min n 2) x23 A.s2 ∧ AgreeCols (1024 * min n 2) x24 A.t2⌝
    ∗ owns (c : Thread nD τ) sc0 fullShare x15
    ∗ owns (c : Thread nD τ) sc1 fullShare x16
    ∗ owns (c : Thread nD τ) sc2 fullShare A.haug
    ∗ owns (c : Thread nD τ) sc3 fullShare A.ea
    ∗ owns (c : Thread nD τ) sc4 fullShare A.eb
    ∗ owns (c : Thread nD τ) sc5 fullShare A.et
    ∗ owns (c : Thread nD τ) sc6 fullShare A.ef
    ∗ owns (c : Thread nD τ) sc7 fullShare A.lemb
    ∗ owns (c : Thread nD τ) sc8 fullShare x23
    ∗ owns (c : Thread nD τ) sc9 fullShare x24
    ∗ (∃ r, prngReg c r))

/-- The invariant before position `n`. -/
def Inv (c : Dev nD) : (n : ℕ) → n ≤ cfg0.N → sProp 𝕄
  | 0, _ => Pipeline.ΦA spec0 c
  | n + 1, _ => Carried (args m c) c n

theorem Inv_pos (c : Dev nD) (n : ℕ) (h : n ≤ cfg0.N) (hz : n ≠ 0) : Inv m c n h = Carried (args m c) c (n - 1) := by
  cases n with
  | zero => exact absurd rfl hz
  | succ n => rfl

/-- The pipeline's data: the arrays as the region finds them, each input's buffer at its block after the body, the
result's at the block the point stores, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (args m c).outBlk (blkOf t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Inv m c t.val (Nat.le_of_lt t.isLt) := by
  dsimp only [dats]; exact Pipeline.Dat.Φ_castSucc (Inv m c) t

theorem Phi_succ (c : Dev nD) (t : Fin cfg0.N) : (dats m 0 c).Φ t.succ = Carried (args m c) c t.val := rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = (args m c).outBlk (blkOf t) := by dsimp only [dats]

/-- The result's buffer is untouched and not written back before point 3, -/
theorem idle_out : ∀ t : Fin cfg0.N, t.val < 3 →
    cfg0.idle 13 (cfg0.grid.coords t) = true ∧ (cfg0.win 13).flush t = false :=
  (by decide +kernel : ∀ t : Fin grid0.N, _)
/-- and stored from there on. -/
theorem live_out : ∀ t : Fin cfg0.N, 3 ≤ t.val → cfg0.idle 13 (cfg0.grid.coords t) = false :=
  (by decide +kernel : ∀ t : Fin grid0.N, _)

theorem leaves_out_idle (c : Dev nD) (t : Fin cfg0.N) (ht : t.val < 3) : (dats m 0 c).leavesExact 13 t
    = iprop(∃ d, owns (c : Thread nD τ) (st0_13 t) fullShare ((dats m 0 c).before 13 t d)) :=
  (dats m 0 c).leavesExact_idle 13 t (idle_out t ht).1 (idle_out t ht).2

theorem leaves_out_live (c : Dev nD) (t : Fin cfg0.N) (ht : 3 ≤ t.val) : (dats m 0 c).leavesExact 13 t
    = owns (c : Thread nD τ) (st0_13 t) fullShare ((args m c).outBlk (blkOf t)) := by
  unfold Dat.leavesExact; rw [live_out t ht, after_13]

/-! ## The body at a grid point -/

/-- What the body is given, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ (dats m 0 c).leavesExact 13 t)

set_option maxHeartbeats 8000000 in
/-- The body at any point, phase by phase: what a phase does not touch is handed back as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12]
  rw [show (dats m 0 c).owesAt () t.succ = (dats m 0 c).owesAt () t.castSucc from rfl, Phi_succ, Phi_castSucc]
  have hN : t.val < 5 := lt_of_lt_of_eq t.isLt N_0
  by_cases h0 : t.val = 0
  · have hc1 : ¬ k0_cond1 (grid0.coords t) = 1#1 := fun h => (cond1_iff t).mp h h0
    rw [leaves_out_idle m c t (by omega)]
    rw [show Inv m c t.val (Nat.le_of_lt t.isLt) = Pipeline.ΦA spec0 c from by
      obtain ⟨n, hn⟩ := t; subst h0; rfl, PhiA_eq]
    simp only [iblk_0 m c t, iblk_2 m c t, iblk_3 m c t, iblk_4 m c t, iblk_5 m c t, iblk_6 m c t, iblk_7 m c t, iblk_8 m c t, iblk_9 m c t, iblk_10 m c t, iblk_11 m c t, iblk_12 m c t]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    icases HS0 with ⟨%x15, HS0⟩
    icases HS1 with ⟨%x16, HS1⟩
    icases HS8 with ⟨%x23, HS8⟩
    icases HS9 with ⟨%x24, HS9⟩
    iapply (setup_run c (grid0.coords t) _ _ _ _ _ _ _ _ _ _ _ _ _ _ _ _ _ _ _ _ _ _ _ _ _ _ _ _ _ _ _ _ _ _ _ _ _ _ _ _ _ _ _ _ _ _ _ _ hc1 (args m c) Set.univ _)
    isplitl [H0]; · iexact H0
    isplitl [H2]; · iexact H2
    isplitl [H3]; · iexact H3
    isplitl [H4]; · iexact H4
    isplitl [H5]; · iexact H5
    isplitl [H7]; · iexact H7
    isplitl [H8]; · iexact H8
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H2, H3, H4, H5, H7, H8, HS2, HS3, HS4, HS5, HS6, HS7⟩
    isplitl [HS0 HS1 HS2 HS3 HS4 HS5 HS6 HS7 HS8 HS9 Hg]
    · unfold Carried
      iexists x15, x16, x23, x24
      isplitr
      · ipureintro
        rw [h0]
        exact ⟨fun y hy => absurd hy (Nat.not_lt_zero _), fun y hy => absurd hy (Nat.not_lt_zero _),
          fun y hy => absurd hy (Nat.not_lt_zero _), fun y hy => absurd hy (Nat.not_lt_zero _)⟩
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  have hc1 : k0_cond1 (grid0.coords t) = 1#1 := (cond1_iff t).mpr h0
  rw [Inv_pos m c _ _ h0]
  unfold Carried
  by_cases h3 : 3 ≤ t.val
  · have hc2 : k0_cond2 (grid0.coords t) = 1#1 := (cond2_iff t h0).mpr h3
    rw [leaves_out_live m c t h3, show 1024 * min (t.val - 1) 2 = 2048 from by omega,
      show 1024 * min t.val 2 = 2048 from by omega]
    simp only [iblk_0 m c t, iblk_2 m c t, iblk_3 m c t, iblk_4 m c t, iblk_5 m c t, iblk_6 m c t, iblk_7 m c t, iblk_8 m c t, iblk_9 m c t, iblk_10 m c t, iblk_11 m c t, iblk_12 m c t]
    iintro ⟨⟨%x15, %x16, %x23, %x24, %hag, HS0, HS1, HS2, HS3, HS4, HS5, HS6, HS7, HS8, HS9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain ⟨e15, e16, e23, e24⟩ := hag
    obtain rfl := e15.eq
    obtain rfl := e16.eq
    obtain rfl := e23.eq
    obtain rfl := e24.eq
    iapply (phaseB_run c (grid0.coords t) _ _ _ _ _ _ _ _ _ _ _ _ _ _ _ _ _ _ _ _ _ _ _ _ _ _ _ _ _ _ _ _ _ _ _ _ _ _ _ _ _ _ _ _ _ _ _ _ (blkOf t) hc1 hc2 (off1_eq t h3) (off2_eq t h3) (args m c) Set.univ _)
    isplitl [H12]; · iexact H12
    isplitl [H13]; · iexists _; iexact H13
    isplitl [HS0]; · iexact HS0
    isplitl [HS1]; · iexact HS1
    isplitl [HS8]; · iexact HS8
    isplitl [HS9]; · iexact HS9
    iintro ⟨H12, H13, HS0, HS1, HS8, HS9⟩
    isplitl [HS0 HS1 HS2 HS3 HS4 HS5 HS6 HS7 HS8 HS9 Hg]
    · iexists _, _, _, _
      isplitr
      · ipureintro; exact ⟨e15, e16, e23, e24⟩
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hc2 : ¬ k0_cond2 (grid0.coords t) = 1#1 := fun h => h3 ((cond2_iff t h0).mp h)
    have hb : (blkOf t).val = t.val - 1 := by show (t.val + 1) % 2 = t.val - 1; omega
    rw [leaves_out_idle m c t (by omega), show 1024 * min (t.val - 1) 2 = 1024 * (blkOf t).val from by omega,
      show 1024 * min t.val 2 = 1024 * (blkOf t).val + 1024 from by omega]
    simp only [iblk_0 m c t, iblk_2 m c t, iblk_3 m c t, iblk_4 m c t, iblk_5 m c t, iblk_6 m c t, iblk_7 m c t, iblk_8 m c t, iblk_9 m c t, iblk_10 m c t, iblk_11 m c t, iblk_12 m c t, iblk_1 m c t h0]
    iintro ⟨⟨%x15, %x16, %x23, %x24, %hag, HS0, HS1, HS2, HS3, HS4, HS5, HS6, HS7, HS8, HS9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain ⟨e15, e16, e23, e24⟩ := hag
    iapply (phaseA_run c (grid0.coords t) _ _ _ _ _ _ _ _ _ _ _ _ _ _ _ _ _ _ _ _ _ _ _ _ _ _ _ _ _ _ _ _ _ _ _ _ _ _ _ _ _ _ _ _ _ _ _ _ (blkOf t) hc1 hc2 (off3_eq t h0) (off4_eq t h0) (off5_eq t h0) (off6_eq t h0)
      (off7_eq t h0) (off8_eq t h0) (args m c) x15 x16 x23 x24 Set.univ _)
    isplitl [H1]; · iexact H1
    isplitl [H6]; · iexact H6
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H1, H6, H9, H10, H11, HS0, HS1, HS2, HS3, HS4, HS5, HS6, HS7, HS8, HS9⟩
    isplitl [HS0 HS1 HS2 HS3 HS4 HS5 HS6 HS7 HS8 HS9 Hg]
    · iexists _, _, _, _
      isplitr
      · ipureintro; exact ⟨e15.put, e16.put, e23.put, e24.put⟩
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13

theorem body_row (t : Fin cfg0.N) : defs₀ (F := F) .tc cfg0.body (cfg0.bodyArgs t (cfg0.slots t)) = bodyAt0 t := by
  unfold defs₀; rw [Defs.onTc_tc]

set_option maxHeartbeats 4000000 in
/-- The obligation the pipeline asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch hands over the invariant before the first point, -/
theorem hin (c : Dev nD) : Pipeline.ΦA spec0 c ⊢ (dats m 0 c).Φ 0 := by
  rw [show (dats m 0 c).Φ 0 = Pipeline.ΦA spec0 c from rfl]

/-- and takes the scratch arrays back after the last, their contents forgotten. -/
theorem hout (c : Dev nD) : (dats m 0 c).Φ (Fin.last cfg0.N) ⊢ Pipeline.ΦA spec0 c := by
  rw [show (dats m 0 c).Φ (Fin.last cfg0.N) = Inv m c cfg0.N (le_refl _) from rfl,
    Inv_pos m c _ _ (by rw [show cfg0.N = 5 from N_0]; decide), PhiA_eq]
  unfold Carried
  iintro ⟨%x15, %x16, %x23, %x24, %hag, HS0, HS1, HS2, HS3, HS4, HS5, HS6, HS7, HS8, HS9, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

set_option maxHeartbeats 4000000 in
set_option backward.isDefEq.respectTransparency.types false in
/-- Every execution terminates with each array at its contents after the last write-back and all counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Proof

end
-- ==== Proof.Final.lean ====
module

public import proofs.«01_k».proof.Proof.Launch

/-!
What the whole launch leaves: the arguments as launched, the counters at zero, and the result array equal to the value
`Args.out` of the arguments. The frame of the kernel follows for every reading of the floats.
-/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- The run with both halves of the frame: the arguments end as launched, and every counter at zero. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- A block of an array glued from blocks is the block it was glued from. -/
theorem rowBlk_glueRows {α : Type} {n : ℕ} (P : Fin 2 → (⟨2, ![1024, n]⟩ : Shape).Idx → α) (j : Fin 2) :
    rowBlk j (glueRows P) = P j := by
  funext y
  have h : (y 0).val < 1024 := (y 0).isLt
  have hq : (⟨(1024 * j.val + (y 0).val) / 1024, by omega⟩ : Fin 2) = j :=
    Fin.ext (show (1024 * j.val + (y 0).val) / 1024 = j.val by omega)
  refine (congrArg (fun i => P i _) hq).trans (congrArg (P j) (funext fun a => ?_))
  fin_cases a
  · exact Fin.ext (show (1024 * j.val + (y 0).val) % 1024 = (y 0).val by omega)
  · rfl

/-- The result array after the last write-back is the value of the arguments. -/
theorem final (c : Dev nD) : (dats m 0 c).arrAt 13 cfg0.N = (args m c).out := by
  refine (dats m 0 c).arrAt_eq_of_covers 13 _ (by decide +kernel) fun t hflush y => ?_
  have h3 : 3 ≤ t.val := by
    by_contra hlt
    rw [(idle_out t (by omega)).2] at hflush
    exact absurd hflush (by decide)
  blk_simp
  rw [after_13]
  have hi : ((cfg0.win 13).blk t).view.emb y
      = ix2 ⟨1024 * (blkOf t).val + (y 0).val, by have h : (y 0).val < 1024 := (y 0).isLt; have := (blkOf t).isLt; omega⟩ (y 1) := by
    blk_ext [idx_out t h3]
  rw [hi]
  exact (congrFun (rowBlk_glueRows _ (blkOf t)) y).symm

/-- The run with the result array's value said. -/
theorem run_out : θ_run defs (onTc (τ := τ) (main (F := F))) (s₀ m ρ) (fun r => ∀ c : Dev nD,
    r.2.mem ((c.tc : Thread nD τ).loc main_v0) = (args m c).out) :=
  (θ_run defs _ _).mono (fun r h c => ((h.1 c).1 13).trans (final m c)) (run_quiescent m ρ)

end Cert.KernelIdeal.Proof

end
-- ==== Proof.Twin.lean ====
module

public import proofs.«01_k».proof.Defs
public import proofs.«01_k».proof.Proof.Gen.Kernel
public import proofs.«01_k».proof.Proof.Gen.KernelIdeal
public import proofs.«01_k».proof.Proof.Final

/-!
The kernel and its idealization are one text under two names: their body tables are equal, so that the run proved of the
one at every reading of the floats is the run of the other.
-/

@[expose] public section

set_option maxRecDepth 16384

noncomputable section

namespace Cert.Proof

open Idealize.ShloMosaic Idealize.SL.Sem

/-- The two programs have the same body. -/
theorem body_eq : @Cert.Kernel.cc0__body Bits _ _ = @Cert.KernelIdeal.cc0__body Bits _ _ := rfl

set_option backward.isDefEq.respectTransparency false in
/-- So their kernels' tables are the same, -/
theorem table_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- and the tables of the whole programs. -/
theorem defs_eq : Cert.Kernel.defs (F := Bits) = Cert.KernelIdeal.defs (F := Bits) :=
  congrArg (Pipeline.defs (Cert.KernelIdeal.pcfgs (F := Bits))) table_eq

/-- The kernel over float bit patterns: every execution ends, the arguments unchanged and every counter at zero. -/
theorem frame_kernel : Cert.quiescent_Kernel := fun m ρ _ => by
  have h := (θ_run Cert.KernelIdeal.defs _ _).mono (fun _ h => h) (Cert.KernelIdeal.Proof.run_args (F := Bits) m ρ)
  rw [← defs_eq] at h
  exact h

end Cert.Proof

end
-- ==== Proof.Reals.lean ====
module

public import Idealize.ShloMosaic.Lib.Pointwise
public import Idealize.ShloMosaic.Lib.IdealHost

/-!
Facts about extended reals that are real numbers: sums, products, exponentials, quotients and maxima of reals stay
real, and a weighted mean does not change when all its weights are scaled by one number.
-/

@[expose] public section

set_option maxRecDepth 16384

noncomputable section

namespace Cert.Proof

open Idealize.ShloMosaic

/-! ### Reals among the extended reals -/

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem coe_max (x y : ℝ) : max (x : EReal) (y : EReal) = ((max x y : ℝ) : EReal) :=
  (EReal.coe_strictMono.monotone.map_max).symm

theorem coe_div (x y : ℝ) (hy : y ≠ 0) : Ideal.div (x : EReal) (y : EReal) = ((x / y : ℝ) : EReal) := by
  rw [Ideal.div_coe hy, ← EReal.coe_mul, mul_one_div]

/-- The largest of finitely many extended reals is one of them, when there is at least one above `⊥`. -/
theorem fold_max_mem {n : ℕ} (f : Fin n → EReal) (s : Finset (Fin n)) :
    s.fold max ⊥ f = ⊥ ∨ ∃ i ∈ s, s.fold max ⊥ f = f i := by
  classical
  induction s using Finset.induction_on with
  | empty => exact .inl (Finset.fold_empty)
  | insert i s hi ih =>
    rw [Finset.fold_insert hi]
    rcases ih with h | ⟨k, hk, h⟩
    · exact .inr ⟨i, Finset.mem_insert_self _ _, by rw [h]; exact max_eq_left bot_le⟩
    · rw [h]
      rcases max_choice (f i) (f k) with e | e
      · exact .inr ⟨i, Finset.mem_insert_self _ _, e⟩
      · exact .inr ⟨k, Finset.mem_insert_of_mem hk, e⟩

/-- It bounds every one of them. -/
theorem le_fold_max {n : ℕ} (f : Fin n → EReal) (s : Finset (Fin n)) (i : Fin n) (hi : i ∈ s) :
    f i ≤ s.fold max ⊥ f := by
  rw [Finset.le_fold_max]
  exact .inr ⟨i, hi, le_rfl⟩

/-- The largest of finitely many extended reals below `⊤` is a real, when one of them is above `⊥`. -/
theorem fold_max_real {n : ℕ} (f : Fin n → EReal) (ht : ∀ i, f i ≠ ⊤) (i : Fin n) (hi : f i ≠ ⊥) :
    ∃ r : ℝ, Finset.univ.fold max ⊥ f = (r : EReal) := by
  have hne : Finset.univ.fold max ⊥ f ≠ ⊥ := fun h =>
    hi (le_bot_iff.1 (h ▸ le_fold_max f Finset.univ i (Finset.mem_univ i)))
  rcases fold_max_mem f Finset.univ with h | ⟨k, -, h⟩
  · exact absurd h hne
  · exact ⟨_, (EReal.coe_toReal (h ▸ ht k) hne).symm⟩

/-- The largest over pairs whose first place has one value is the largest over the second place. -/
theorem fold_max_pair {n : ℕ} (f : Fin n → EReal) :
    (Finset.univ.fold max (⊥ : EReal) fun z : Fin 1 × Fin n => f z.2) = Finset.univ.fold max ⊥ f := by
  rw [← Finset.univ_map_equiv_to_embedding (Equiv.uniqueProd (Fin n) (Fin 1)).symm, Finset.fold_map]
  rfl

/-- The largest of finitely many reals. -/
def top {n : ℕ} (f : Fin n → ℝ) : ℝ := (Finset.univ.fold max (⊥ : EReal) fun j => (f j : EReal)).toReal

/-- The largest of finitely many reals, one at least, taken among the extended reals. -/
theorem fold_max_coe {n : ℕ} [NeZero n] (f : Fin n → ℝ) :
    (Finset.univ.fold max (⊥ : EReal) fun j => (f j : EReal)) = (top f : EReal) := by
  obtain ⟨r, hr⟩ := fold_max_real (fun j => (f j : EReal)) (fun j => EReal.coe_ne_top _) 0 (EReal.coe_ne_bot _)
  unfold top
  rw [hr, EReal.toReal_coe]

/-! ### Words -/

theorem bot_word : Ideal.ofBits .f32 0xFF800000#32 = ⊥ := by
  simp [Ideal.ofBits, Ideal.ieee]

theorem top_word : Ideal.ofBits .f32 0x7F800000#32 = ⊤ := by
  simp [Ideal.ofBits, Ideal.ieee]

/-- The slope of the leaky rectifier below zero. -/
def slope : ℝ := 13421773 * (2 : ℝ) ^ (-26 : ℤ)

theorem slope_word : Ideal.ofBits .f32 0x3E4CCCCD#32 = (slope : EReal) := by
  simp [Ideal.ofBits, Ideal.ieee, slope]

theorem slope_pos : 0 < slope := by unfold slope; positivity

theorem slope_le_one : slope ≤ 1 := by unfold slope; norm_num

/-! ### The leaky rectifier, the exponential one, and the weighted mean -/

/-- The leaky rectifier. -/
def leaky (z : ℝ) : ℝ := max z (slope * z)

/-- On numbers not below zero the leaky rectifier is the identity, below zero it scales. -/
theorem leaky_eq (z : ℝ) : leaky z = if 0 ≤ z then z else slope * z := by
  unfold leaky
  split_ifs with h
  · exact max_eq_left (by nlinarith [slope_le_one])
  · exact max_eq_right (by nlinarith [slope_le_one])

/-- The exponential rectifier. -/
def elu (z : ℝ) : ℝ := if 0 < z then z else Real.exp z - 1

/-- The mean of `v` with weights `w`. -/
def mean {n : ℕ} (w v : Fin n → ℝ) : ℝ := (∑ j, w j * v j) / ∑ j, w j

/-- Scaling every weight by the same number other than zero leaves the mean alone. -/
theorem mean_scale {n : ℕ} (c : ℝ) (hc : c ≠ 0) (w v : Fin n → ℝ) : mean (fun j => c * w j) v = mean w v := by
  unfold mean
  simp only [mul_assoc, ← Finset.mul_sum]
  exact mul_div_mul_left _ _ hc

/-- The mean as a sum of values times normalised weights. -/
theorem mean_eq_sum {n : ℕ} (w v : Fin n → ℝ) : mean w v = ∑ j, w j / (∑ k, w k) * v j := by
  unfold mean
  rw [Finset.sum_div]
  exact Finset.sum_congr rfl fun j _ => (div_mul_eq_mul_div _ _ _).symm

/-- The larger of two products of exponentials is the exponential of a leaky rectifier, up to a factor that depends
    on the row alone. -/
theorem max_exp (s t T u : ℝ) :
    max (Real.exp (s - u + T) * Real.exp (t - T)) (Real.exp (slope * s - u + slope * T) * Real.exp (slope * (t - T)))
      = Real.exp (-u) * Real.exp (leaky (s + t)) := by
  rw [← Real.exp_add, ← Real.exp_add, ← Real.exp_add, ← Real.exp_monotone.map_max]
  congr 1
  unfold leaky
  rw [show s - u + T + (t - T) = -u + (s + t) by ring,
    show slope * s - u + slope * T + slope * (t - T) = -u + slope * (s + t) by ring]
  exact max_add_add_left _ _ _

/-- A quotient of two weighted sums, the second over ones, is the weighted mean, up to a factor the weights share. -/
theorem quot_mean {n : ℕ} {P A Q O : Fin n → EReal} {p a v w : Fin n → ℝ} {c : ℝ} (hP : ∀ m, P m = p m)
    (hA : ∀ m, A m = a m) (hQ : ∀ m, Q m = v m) (hO : ∀ m, O m = 1) (hc : c ≠ 0) (hp : ∀ m, p m * a m = c * w m)
    (hw : ∑ m, w m ≠ 0) :
    Ideal.div (∑ m, P m * A m * Q m) (∑ m, P m * A m * O m) = (mean w v : EReal) := by
  simp only [hP, hA, hQ, hO, mul_one, ← EReal.coe_mul, coe_sum, hp]
  rw [coe_div]
  · exact congrArg _ (mean_scale c hc w v)
  · rw [← Finset.mul_sum]
    exact mul_ne_zero hc hw

/-- The softmax of a row of extended reals, shifted by the row's largest entry. -/
def soft {n : ℕ} (v : Fin n → EReal) (o : Fin n) : EReal :=
  Ideal.div (Ideal.exp (v o - Finset.univ.fold max ⊥ v)) (∑ p, Ideal.exp (v p - Finset.univ.fold max ⊥ v))

/-! ### Masked rows -/

/-- A row of exponents, masked to `⊥` where the weight is zero, has a real maximum; the exponentials of its distances
    from that maximum are the unmasked exponentials times the weights, up to a factor of the row's own. -/
theorem masked_row {n : ℕ} {e : Fin n → EReal} {z a : Fin n → ℝ}
    (he : ∀ m, e m = if 0 < a m then (z m : EReal) else ⊥) (ha : ∀ m, a m = 0 ∨ a m = 1) (hs : ∃ m, a m = 1) :
    ∃ M : ℝ, ∀ m, Ideal.exp (e m - max ⊥ (Finset.univ.fold max ⊥ e)) = ((Real.exp (-M) * (Real.exp (z m) * a m) : ℝ) : EReal) := by
  obtain ⟨k, hk⟩ := hs
  obtain ⟨M, hM⟩ := fold_max_real e (fun m => by rw [he]; split_ifs <;> simp) k (by rw [he, hk]; simp)
  refine ⟨M, fun m => ?_⟩
  rw [max_eq_right bot_le, hM, he]
  rcases ha m with h | h
  · rw [h, if_neg (lt_irrefl _), EReal.bot_sub, mul_zero, mul_zero]
    rfl
  · rw [h, if_pos one_pos, ← EReal.coe_sub, Ideal.exp_coe, mul_one, ← Real.exp_add]
    congr 2
    ring

/-- A sum of values times normalised weights is the weighted mean, up to a factor the weights share. -/
theorem sum_mean {n : ℕ} {W Q : Fin n → EReal} {v w : Fin n → ℝ} {c : ℝ} (hW : ∀ m, W m = ((c * w m : ℝ) : EReal))
    (hQ : ∀ m, Q m = v m) (hc : c ≠ 0) (hw : ∑ m, w m ≠ 0) :
    ∑ m, Q m * Ideal.div (W m) (∑ k, W k) = (mean w v : EReal) := by
  have hs : ∑ m, c * w m ≠ 0 := by
    rw [← Finset.mul_sum]
    exact mul_ne_zero hc hw
  simp only [hW, hQ, coe_sum, coe_div _ _ hs, ← EReal.coe_mul]
  rw [← mean_scale c hc, mean_eq_sum]
  exact congrArg _ (Finset.sum_congr rfl fun m _ => mul_comm _ _)

/-- The host's maximum along the middle axis of three. -/
theorem reduce_mid {n0 n1 n2 : ℕ} (h : (⟨3, ![n0, n1, n2]⟩ : Shape).ReducesTo [1] ⟨2, ![n0, n2]⟩)
    (hu : 0 < (⟨0, ![]⟩ : Shape).numel) (v : FVec Ideal ⟨3, ![n0, n1, n2]⟩ .f32) (n : Fin n0) (k : Fin n2) :
    Host.reduce FloatOps.maximumf v (constant (F := Ideal) ⟨0, ![]⟩ .f32 0xFF800000#32) h hu (ix2 n k)
      = Finset.univ.fold max (⊥ : EReal) fun m => (v (ix3 n m k) : EReal) := by
  refine (Host.reduce_eq_fold (α := EReal) max v _ h hu _).trans ?_
  rw [Shape.ReducesTo.fold_fiber_r3_a1]
  exact congrArg (fun b => Finset.fold max b (fun m => (v (ix3 n m k) : EReal)) Finset.univ) bot_word

/-- The host's maximum along the last axis of two. -/
theorem reduce_last {n0 n1 : ℕ} (h : (⟨2, ![n0, n1]⟩ : Shape).ReducesTo [1] ⟨1, ![n0]⟩)
    (hu : 0 < (⟨0, ![]⟩ : Shape).numel) (v : FVec Ideal ⟨2, ![n0, n1]⟩ .f32) (n : Fin n0) :
    Host.reduce FloatOps.maximumf v (constant (F := Ideal) ⟨0, ![]⟩ .f32 0xFF800000#32) h hu (ix1 n)
      = Finset.univ.fold max (⊥ : EReal) fun m => (v (ix2 n m) : EReal) := by
  refine (Host.reduce_eq_fold (α := EReal) max v _ h hu _).trans ?_
  rw [Shape.ReducesTo.fold_fiber_r2_a1]
  exact congrArg (fun b => Finset.fold max b (fun m => (v (ix2 n m) : EReal)) Finset.univ) bot_word

end Cert.Proof

end
-- ==== Proof.Net.lean ====
module

public import proofs.«01_k».proof.Proof.Values
public import proofs.«01_k».proof.Proof.Reals

/-!
The network on real numbers: two layers of graph attention and a row softmax. Both programs are shown to compute it.
-/

@[expose] public section

set_option maxRecDepth 16384

noncomputable section

namespace Cert.Proof

open Idealize.ShloMosaic

/-- The thirteen inputs: real numbers, but for the last bias, of which nothing is asked. -/
structure Net where
  x : Fin 2048 → Fin 128 → ℝ
  a : Fin 2048 → Fin 2048 → ℝ
  lay : Fin 2048 → Fin 5 → ℝ
  k1 : Fin 128 → Fin 4 → Fin 16 → ℝ
  as1 : Fin 4 → Fin 16 → ℝ
  an1 : Fin 4 → Fin 16 → ℝ
  b1 : Fin 64 → ℝ
  wl : Fin 5 → Fin 64 → ℝ
  bl : Fin 64 → ℝ
  k2 : Fin 64 → Fin 1000 → ℝ
  as2 : Fin 1000 → ℝ
  an2 : Fin 1000 → ℝ
  b2 : Fin 1000 → EReal

namespace Net

variable (N : Net)

/-- The adjacency matrix holds zeros and ones, and every node has a neighbour. -/
structure Graph : Prop where
  bit : ∀ n m, N.a n m = 0 ∨ N.a n m = 1
  some : ∀ n, ∃ m, N.a n m = 1

/-! ### The first layer -/

/-- The features of node `n` under head `h`. -/
def h1 (h : Fin 4) (n : Fin 2048) (c : Fin 16) : ℝ := ∑ f, N.x n f * N.k1 f h c
/-- The row-side logits. -/
def s1 (h : Fin 4) (n : Fin 2048) : ℝ := ∑ c, N.h1 h n c * N.as1 h c
/-- The column-side logits. -/
def t1 (h : Fin 4) (m : Fin 2048) : ℝ := ∑ c, N.h1 h m c * N.an1 h c
/-- The weight node `n` gives to node `m`, before normalisation. -/
def w1 (h : Fin 4) (n m : Fin 2048) : ℝ := Real.exp (leaky (N.s1 h n + N.t1 h m)) * N.a n m
/-- The mean of the neighbours' features. -/
def g1 (h : Fin 4) (n : Fin 2048) (c : Fin 16) : ℝ := mean (N.w1 h n) fun m => N.h1 h m c
/-- The heads side by side, with the bias. -/
def v1 (n : Fin 2048) (k : Fin 64) : ℝ :=
  N.g1 ⟨k / 16, by omega⟩ n ⟨k % 16, by omega⟩ + N.b1 k
/-- The embedded layout. -/
def emb (n : Fin 2048) (k : Fin 64) : ℝ := max (∑ f, N.lay n f * N.wl f k + N.bl k) 0
/-- The hidden layer. -/
def hid (n : Fin 2048) (k : Fin 64) : ℝ := elu (N.v1 n k) + N.emb n k

/-! ### The second layer -/

/-- The features of node `n`. -/
def h2 (n : Fin 2048) (o : Fin 1000) : ℝ := ∑ k, N.hid n k * N.k2 k o
/-- The row-side logits. -/
def s2 (n : Fin 2048) : ℝ := ∑ o, N.h2 n o * N.as2 o
/-- The column-side logits. -/
def t2 (m : Fin 2048) : ℝ := ∑ o, N.h2 m o * N.an2 o
/-- The weight node `n` gives to node `m`, before normalisation. -/
def w2 (n m : Fin 2048) : ℝ := Real.exp (leaky (N.s2 n + N.t2 m)) * N.a n m
/-- The mean of the neighbours' features, with the bias. -/
def v2 (n : Fin 2048) (o : Fin 1000) : EReal := ((mean (N.w2 n) fun m => N.h2 m o : ℝ) : EReal) + N.b2 o
/-- The row softmax. -/
def y (n : Fin 2048) (o : Fin 1000) : EReal := soft (N.v2 n) o

/-- A row of weights does not add up to zero: no weight is negative, and a neighbour's is positive. -/
theorem sum_weight_ne_zero {N : Net} (hN : N.Graph) (z : Fin 2048 → ℝ) (n : Fin 2048) :
    ∑ m, Real.exp (z m) * N.a n m ≠ 0 := by
  obtain ⟨m, hm⟩ := hN.some n
  refine (Finset.sum_pos' (fun k _ => ?_) ⟨m, Finset.mem_univ _, ?_⟩).ne'
  · rcases hN.bit n k with h | h <;> rw [h] <;> [simp; simpa using (Real.exp_pos _).le]
  · rw [hm, mul_one]
    exact Real.exp_pos _

/-- The inputs as arrays of extended reals. -/
def args : Cert.KernelIdeal.Proof.Args Ideal where
  x j := (N.x (j 0) (j 1) : EReal)
  a j := (N.a (j 0) (j 1) : EReal)
  lay j := (N.lay (j 0) (j 1) : EReal)
  k1 j := (N.k1 (j 0) (j 1) (j 2) : EReal)
  as1 j := (N.as1 (j 0) (j 1) : EReal)
  an1 j := (N.an1 (j 0) (j 1) : EReal)
  b1 j := (N.b1 (j 0) : EReal)
  wl j := (N.wl (j 0) (j 1) : EReal)
  bl j := (N.bl (j 0) : EReal)
  k2 j := (N.k2 (j 0) (j 2) : EReal)
  as2 j := (N.as2 (j 1) : EReal)
  an2 j := (N.an2 (j 1) : EReal)
  b2 j := N.b2 (j 0)

end Net

end Cert.Proof

end
-- ==== Proof.Drawn.lean ====
module

public import proofs.«01_k».proof.Defs
public import proofs.«01_k».proof.Proof.Gen.Pre_drawn
public import proofs.«01_k».proof.Proof.Net
public import proofs.«01_k».proof.Proof.Run
public import Idealize.ShloMosaic.Lib.IdealHost

/-!
The precondition: inputs that hold it are the inputs of a network over a graph in which every node
has a neighbour.
-/

@[expose] public section

set_option maxRecDepth 16384

noncomputable section

namespace Cert.Proof

open Idealize.ShloMosaic Idealize.ShloMosaic.TcCoe Idealize.SL.Sem Idealize.ShloMosaic.StableHlo

/-- An array of extended reals is one of reals. -/
def AllReal (s : Shape) (v : FVec Ideal s .f32) : Prop := ∀ i, v i = (((v i : EReal).toReal : ℝ) : EReal)

theorem abs_lt_top (z : EReal) (h : max z (-z) < ⊤) : z = (z.toReal : EReal) := by
  refine (EReal.coe_toReal ?_ ?_).symm
  · rintro rfl
    exact absurd h (by simp)
  · rintro rfl
    exact absurd h (by simp)

/-- The check `|v| < ∞`, read. -/
theorem real_of_check {s : Shape} (v : FVec Ideal s .f32)
    (h : (⟨0, ![]⟩ : Shape).BroadcastsInDim s (![] : Fin 0 → Fin s.rank))
    (hv : cmpf .olt (Host.absf v) (broadcastInDim s ![] h (constant (F := Ideal) ⟨0, ![]⟩ .f32 0x7F800000#32)) = fun _ => 1#1) :
    AllReal s v := fun i => by
  have e : Ideal.cmp .olt (max (v i : EReal) (-(v i : EReal))) (Ideal.ofBits .f32 0x7F800000#32) = 1#1 := congrFun hv i
  rw [top_word] at e
  refine abs_lt_top _ ?_
  by_contra hn
  simp only [Ideal.cmp, decide_eq_false hn] at e
  exact absurd e (by decide)

/-- The check that every entry is zero or one, read. -/
theorem bit_of_check {s : Shape} (v : FVec Ideal s .f32)
    (h : (⟨0, ![]⟩ : Shape).BroadcastsInDim s (![] : Fin 0 → Fin s.rank))
    (hv : ori (cmpf .oeq v (broadcastInDim s ![] h (constant (F := Ideal) ⟨0, ![]⟩ .f32 0x00000000#32)))
      (cmpf .oeq v (broadcastInDim s ![] h (constant (F := Ideal) ⟨0, ![]⟩ .f32 0x3F800000#32))) = fun _ => 1#1) (i : s.Idx) :
    v i = (0 : EReal) ∨ v i = (1 : EReal) := by
  have e : Ideal.cmp .oeq (v i) (Ideal.ofBits .f32 0x00000000#32) ||| Ideal.cmp .oeq (v i) (Ideal.ofBits .f32 0x3F800000#32) = 1#1 :=
    congrFun hv i
  rw [Ideal.ofBits_zero_f32, Ideal.ofBits_one_f32] at e
  by_contra hn
  push Not at hn
  simp only [Ideal.cmp, decide_eq_false hn.1, decide_eq_false hn.2] at e
  exact absurd e (by decide)

/-- The check that every entry is one, read. -/
theorem one_of_check {s : Shape} (v : FVec Ideal s .f32)
    (h : (⟨0, ![]⟩ : Shape).BroadcastsInDim s (![] : Fin 0 → Fin s.rank))
    (hv : cmpf .oeq v (broadcastInDim s ![] h (constant (F := Ideal) ⟨0, ![]⟩ .f32 0x3F800000#32)) = fun _ => 1#1) (i : s.Idx) :
    v i = (1 : EReal) := by
  have e : Ideal.cmp .oeq (v i) (Ideal.ofBits .f32 0x3F800000#32) = 1#1 := congrFun hv i
  rw [Ideal.ofBits_one_f32] at e
  by_contra hn
  simp only [Ideal.cmp, decide_eq_false hn] at e
  exact absurd e (by decide)

/-- The check that the largest entry of each row is one, read. -/
theorem some_of_check {n0 n1 : ℕ} (v : FVec Ideal ⟨2, ![n0, n1]⟩ .f32)
    (hr : (⟨2, ![n0, n1]⟩ : Shape).ReducesTo [1] ⟨1, ![n0]⟩) (hu : 0 < (⟨0, ![]⟩ : Shape).numel)
    (h : (⟨0, ![]⟩ : Shape).BroadcastsInDim ⟨1, ![n0]⟩ (![] : Fin 0 → Fin (⟨1, ![n0]⟩ : Shape).rank))
    (hv : cmpf .oeq (Host.reduce FloatOps.maximumf v (constant (F := Ideal) ⟨0, ![]⟩ .f32 0xFF800000#32) hr hu)
      (broadcastInDim ⟨1, ![n0]⟩ ![] h (constant (F := Ideal) ⟨0, ![]⟩ .f32 0x3F800000#32)) = fun _ => 1#1) (n : Fin n0) :
    ∃ m, v (ix2 n m) = (1 : EReal) := by
  have hm : (Finset.univ.fold max (⊥ : EReal) fun m => (v (ix2 n m) : EReal)) = 1 :=
    (reduce_last hr hu v n).symm.trans (one_of_check _ h hv (ix1 n))
  rcases fold_max_mem (fun m => (v (ix2 n m) : EReal)) Finset.univ with hb | ⟨k, -, hk⟩
  · exact absurd (hb.symm.trans hm) (EReal.bot_lt_coe 1).ne
  · exact ⟨k, hk.symm.trans hm⟩

open Cert.KernelIdeal.Proof (Args)

/-- The network over the reals of the arguments. -/
def Net.of (A : Args Ideal) : Net where
  x n f := (A.x (ix2 n f) : EReal).toReal
  a n m := (A.a (ix2 n m) : EReal).toReal
  lay n f := (A.lay (ix2 n f) : EReal).toReal
  k1 f h c := (A.k1 (ix3 f h c) : EReal).toReal
  as1 h c := (A.as1 (ix2 h c) : EReal).toReal
  an1 h c := (A.an1 (ix2 h c) : EReal).toReal
  b1 k := (A.b1 (ix1 k) : EReal).toReal
  wl f k := (A.wl (ix2 f k) : EReal).toReal
  bl k := (A.bl (ix1 k) : EReal).toReal
  k2 k o := (A.k2 (ix3 k 0 o) : EReal).toReal
  as2 o := (A.as2 (ix2 0 o) : EReal).toReal
  an2 o := (A.an2 (ix2 0 o) : EReal).toReal
  b2 o := A.b2 (ix1 o)

/-- What the precondition says of the arguments. -/
structure Drawn (A : Args Ideal) : Prop where
  x : AllReal _ A.x
  a : ∀ i, A.a i = (0 : EReal) ∨ A.a i = (1 : EReal)
  some : ∀ n, ∃ m, A.a (ix2 n m) = (1 : EReal)
  lay : AllReal _ A.lay
  k1 : AllReal _ A.k1
  as1 : AllReal _ A.as1
  an1 : AllReal _ A.an1
  b1 : AllReal _ A.b1
  wl : AllReal _ A.wl
  bl : AllReal _ A.bl
  k2 : AllReal _ A.k2
  as2 : AllReal _ A.as2
  an2 : AllReal _ A.an2

theorem Drawn.a_real {A : Args Ideal} (D : Drawn A) : AllReal _ A.a := fun i => by
  rcases D.a i with h | h <;> rw [h] <;> simp

theorem real1 {n0 : ℕ} {v : FVec Ideal ⟨1, ![n0]⟩ .f32} (h : AllReal _ v) :
    v = fun j => (((v (ix1 (j 0)) : EReal).toReal : ℝ) : EReal) :=
  funext fun j => (h j).trans (congrArg (fun i => (((v i : EReal).toReal : ℝ) : EReal)) (eq_ix1 j))

theorem real2 {n0 n1 : ℕ} {v : FVec Ideal ⟨2, ![n0, n1]⟩ .f32} (h : AllReal _ v) :
    v = fun j => (((v (ix2 (j 0) (j 1)) : EReal).toReal : ℝ) : EReal) :=
  funext fun j => (h j).trans (congrArg (fun i => (((v i : EReal).toReal : ℝ) : EReal)) (eq_ix2 j))

theorem real3 {n0 n1 n2 : ℕ} {v : FVec Ideal ⟨3, ![n0, n1, n2]⟩ .f32} (h : AllReal _ v) :
    v = fun j => (((v (ix3 (j 0) (j 1) (j 2)) : EReal).toReal : ℝ) : EReal) :=
  funext fun j => (h j).trans (congrArg (fun i => (((v i : EReal).toReal : ℝ) : EReal)) (eq_ix3 j))

theorem real2_unit {n1 : ℕ} {v : FVec Ideal ⟨2, ![1, n1]⟩ .f32} (h : AllReal _ v) :
    v = fun j => (((v (ix2 0 (j 1)) : EReal).toReal : ℝ) : EReal) :=
  (real2 h).trans (funext fun j => congrArg (fun i => (((v (ix2 i (j 1)) : EReal).toReal : ℝ) : EReal)) (Subsingleton.elim (α := Fin 1) _ _))

theorem real3_unit {n0 n2 : ℕ} {v : FVec Ideal ⟨3, ![n0, 1, n2]⟩ .f32} (h : AllReal _ v) :
    v = fun j => (((v (ix3 (j 0) 0 (j 2)) : EReal).toReal : ℝ) : EReal) :=
  (real3 h).trans (funext fun j => congrArg (fun i => (((v (ix3 (j 0) i (j 2)) : EReal).toReal : ℝ) : EReal)) (Subsingleton.elim (α := Fin 1) _ _))

/-- The arguments are the network's. -/
theorem Drawn.args {A : Args Ideal} (D : Drawn A) : A = (Net.of A).args := by
  have ha := D.a_real
  obtain ⟨hx, -, -, hlay, hk1, has1, han1, hb1, hwl, hbl, hk2, has2, han2⟩ := D
  obtain ⟨x, a, lay, k1, as1, an1, b1, wl, bl, k2, as2, an2, b2⟩ := A
  simp only [Net.args, Net.of, Args.mk.injEq]
  exact ⟨real2 hx, real2 ha, real2 hlay, real3 hk1, real2 has1, real2 han1, real1 hb1, real2 hwl, real1 hbl,
    real3_unit hk2, real2_unit has2, real2_unit han2, funext fun j => congrArg b2 (eq_ix1 j)⟩

/-- Its graph has edges or none, and every node a neighbour. -/
theorem Drawn.graph {A : Args Ideal} (D : Drawn A) : (Net.of A).Graph where
  bit n m := by
    rcases D.a (ix2 n m) with h | h
    · exact .inl ((congrArg EReal.toReal h).trans EReal.toReal_zero)
    · exact .inr ((congrArg EReal.toReal h).trans EReal.toReal_one)
  some n := by
    obtain ⟨m, h⟩ := D.some n
    exact ⟨m, (congrArg EReal.toReal h).trans EReal.toReal_one⟩

/-- The precondition, read. -/
theorem drawn_of_pre (m : (ℓ : Loc Cert.KernelIdeal.nD Cert.KernelIdeal.τ Cert.KernelIdeal.sig) → Buf (Elt Ideal) ℓ)
    (h : Cert.Pre_KernelIdeal_drawn m) (c : Dev Cert.KernelIdeal.nD) : Drawn (Cert.KernelIdeal.Proof.args m c) := by
  obtain ⟨h0, h2, h3, h4, h5, h6, h7, h8, h9, h10, h11, ha, hs⟩ := h c
  exact ⟨real_of_check _ _ h0, bit_of_check _ _ ha, some_of_check _ _ _ _ hs, real_of_check _ _ h2, real_of_check _ _ h3,
    real_of_check _ _ h4, real_of_check _ _ h5, real_of_check _ _ h6, real_of_check _ _ h7, real_of_check _ _ h8,
    real_of_check _ _ h9, real_of_check _ _ h10, real_of_check _ _ h11⟩

end Cert.Proof

end
-- ==== Proof.ReadA.lean ====
module

public import proofs.«01_k».proof.Proof.Net

/-!
The kernel's first phase on real inputs: its tables hold the reals the network names.
-/

@[expose] public section

set_option maxRecDepth 16384

noncomputable section

namespace Cert.Proof.Net

open Cert.KernelIdeal Cert.KernelIdeal.Gen
open Idealize.ShloMosaic
open Cert.KernelIdeal.Proof

variable (N : Net)

/-! ### One head -/

theorem read_h0 (n : Fin 2048) (c : Fin 16) :
    k0_pay21 N.args.x (N.args.kh 0) (ix2 n c) = (N.h1 0 n c : EReal) := by
  pointwise [k0_pay21, Args.kh, Net.args]
  simp only [← EReal.coe_mul, coe_sum]
  rfl

theorem read_h1 (n : Fin 2048) (c : Fin 16) :
    k0_pay24 N.args.x (N.args.kh 1) (ix2 n c) = (N.h1 1 n c : EReal) := by
  pointwise [k0_pay24, Args.kh, Net.args]
  simp only [← EReal.coe_mul, coe_sum]
  rfl

theorem read_h2 (n : Fin 2048) (c : Fin 16) :
    k0_pay27 N.args.x (N.args.kh 2) (ix2 n c) = (N.h1 2 n c : EReal) := by
  pointwise [k0_pay27, Args.kh, Net.args]
  simp only [← EReal.coe_mul, coe_sum]
  rfl

theorem read_h3 (n : Fin 2048) (c : Fin 16) :
    k0_pay30 N.args.x (N.args.kh 3) (ix2 n c) = (N.h1 3 n c : EReal) := by
  pointwise [k0_pay30, Args.kh, Net.args]
  simp only [← EReal.coe_mul, coe_sum]
  rfl

theorem read_sh (h : Fin 4) (c : Fin 16) : N.args.sh h (ix2 0 c) = (N.as1 h c : EReal) := by
  pointwise [Args.sh, Net.args]

theorem read_nh (h : Fin 4) (c : Fin 16) : N.args.nh h (ix2 0 c) = (N.an1 h c : EReal) := by
  pointwise [Args.nh, Net.args]

theorem sum_s (h : Fin 4) (n : Fin 2048) :
    ∑ c, (N.h1 h n c : EReal) * N.args.sh h (ix2 0 c) = (N.s1 h n : EReal) := by
  simp only [read_sh, ← EReal.coe_mul, coe_sum]
  rfl

theorem sum_t (h : Fin 4) (m : Fin 2048) :
    ∑ c, N.args.nh h (ix2 0 c) * (N.h1 h m c : EReal) = (N.t1 h m : EReal) := by
  simp only [read_nh, mul_comm (N.an1 h _ : EReal), ← EReal.coe_mul, coe_sum]
  rfl

/-! ### The logits, all heads -/

theorem read_s (n : Fin 2048) (h : Fin 4) :
    k0_pay32 N.args.x (k0_pay22 N.args.x (N.args.kh 0) (N.args.sh 0)) (k0_pay25 N.args.x (N.args.kh 1) (N.args.sh 1))
      (k0_pay28 N.args.x (N.args.kh 2) (N.args.sh 2)) (N.args.kh 3) (N.args.sh 3) (ix2 n h) = (N.s1 h n : EReal) := by
  pointwise [k0_pay32, k0_pay22, k0_pay25, k0_pay28, read_h0, read_h1, read_h2, read_h3]
  fin_vals h with hk
  all_goals simp only [hk, Nat.reduceSub, Nat.reduceLT, ↓reduceDIte]
  · exact (N.sum_s 0 n).trans (congrArg (fun k => (N.s1 k n : EReal)) (Fin.ext hk).symm)
  · exact (N.sum_s 1 n).trans (congrArg (fun k => (N.s1 k n : EReal)) (Fin.ext hk).symm)
  · exact (N.sum_s 2 n).trans (congrArg (fun k => (N.s1 k n : EReal)) (Fin.ext hk).symm)
  · exact (N.sum_s 3 n).trans (congrArg (fun k => (N.s1 k n : EReal)) (Fin.ext hk).symm)

theorem read_t (h : Fin 4) (m : Fin 2048) : N.args.t1 (ix2 h m) = (N.t1 h m : EReal) := by
  pointwise [Args.t1, k0_pay33, k0_pay23, k0_pay26, k0_pay29, read_h0, read_h1, read_h2, read_h3]
  fin_vals h with hk
  all_goals simp only [hk, Nat.reduceSub, Nat.reduceLT, ↓reduceDIte]
  · exact (N.sum_t 0 m).trans (congrArg (fun k => (N.t1 k m : EReal)) (Fin.ext hk).symm)
  · exact (N.sum_t 1 m).trans (congrArg (fun k => (N.t1 k m : EReal)) (Fin.ext hk).symm)
  · exact (N.sum_t 2 m).trans (congrArg (fun k => (N.t1 k m : EReal)) (Fin.ext hk).symm)
  · exact (N.sum_t 3 m).trans (congrArg (fun k => (N.t1 k m : EReal)) (Fin.ext hk).symm)

theorem read_tmax (h : Fin 4) : N.args.t1max (ix2 h 0) = (top (N.t1 h) : EReal) := by
  rw [← fold_max_coe]
  simp only [← read_t, ← bot_word]
  pointwise [Args.t1max, k0_pay34, Args.t1]

/-! ### The factors of the exponentials -/

/-- What the kernel subtracts from row `n`'s exponents under head `h`. -/
def u1 (h : Fin 4) (n : Fin 2048) : ℝ := leaky (N.s1 h n + top (N.t1 h))

theorem read_ea (n : Fin 2048) (h : Fin 4) :
    N.args.ea (ix2 n h) = (Real.exp (N.s1 h n - N.u1 h n + top (N.t1 h)) : EReal) := by
  have ht := N.read_tmax h
  unfold Args.t1max at ht
  pointwise [Args.ea, k0_pay36, k0_pay35, read_s, slope_word]
  rw [ht]
  simp only [← EReal.coe_mul, ← EReal.coe_add, ← EReal.coe_sub, coe_max, Ideal.exp_coe]
  rfl

theorem read_eb (n : Fin 2048) (h : Fin 4) :
    N.args.eb (ix2 n h) = (Real.exp (slope * N.s1 h n - N.u1 h n + slope * top (N.t1 h)) : EReal) := by
  have ht := N.read_tmax h
  unfold Args.t1max at ht
  pointwise [Args.eb, k0_pay4, k0_pay37, k0_pay35, read_s, slope_word]
  rw [ht]
  simp only [← EReal.coe_mul, ← EReal.coe_add, ← EReal.coe_sub, coe_max, Ideal.exp_coe]
  rfl

theorem read_et (h : Fin 4) (m : Fin 2048) :
    N.args.et (ix2 h m) = (Real.exp (N.t1 h m - top (N.t1 h)) : EReal) := by
  pointwise [Args.et, k0_pay5, read_t, read_tmax]
  simp only [← EReal.coe_sub, Ideal.exp_coe]

theorem read_ef (h : Fin 4) (m : Fin 2048) :
    N.args.ef (ix2 h m) = (Real.exp (slope * (N.t1 h m - top (N.t1 h))) : EReal) := by
  pointwise [Args.ef, k0_pay6, read_t, read_tmax, slope_word]
  simp only [← EReal.coe_sub, ← EReal.coe_mul, Ideal.exp_coe]

/-- The larger of the two products is the exponential the attention needs, up to a factor of the row's own. -/
theorem read_p (h : Fin 4) (n m : Fin 2048) :
    max (N.args.ea (ix2 n h) * N.args.et (ix2 h m)) (N.args.eb (ix2 n h) * N.args.ef (ix2 h m))
      = ((Real.exp (-N.u1 h n) * Real.exp (leaky (N.s1 h n + N.t1 h m)) : ℝ) : EReal) := by
  rw [read_ea, read_eb, read_et, read_ef, ← EReal.coe_mul, ← EReal.coe_mul, coe_max, max_exp]

theorem read_emb (n : Fin 2048) (k : Fin 64) : N.args.lemb (ix2 n k) = (N.emb n k : EReal) := by
  pointwise [Args.lemb, k0_pay7, Net.args]
  simp only [← EReal.coe_mul, coe_sum, ← EReal.coe_add]
  rw [← EReal.coe_zero, coe_max]
  rfl

/-! ### The features, each head followed by a column of ones -/

set_option maxHeartbeats 1600000 in
theorem read_feat (h : Fin 4) (n : Fin 2048) (c : Fin 16) :
    N.args.haug (ix2 n ⟨24 * h + c, by omega⟩) = (N.h1 h n c : EReal) := by
  match h with
  | 0 =>
    pointwise [Args.haug, k0_pay31]
    exact N.read_h0 n c
  | 1 =>
    pointwise [Args.haug, k0_pay31]
    iterate 3 refine (dif_neg (by omega)).trans ?_
    refine (dif_pos (by omega)).trans ?_
    exact (congrArg (fun k => k0_pay24 N.args.x (N.args.kh 1) (ix2 n k)) (Fin.ext (by simp only; omega))).trans (N.read_h1 n c)
  | 2 =>
    pointwise [Args.haug, k0_pay31]
    iterate 6 refine (dif_neg (by omega)).trans ?_
    refine (dif_pos (by omega)).trans ?_
    exact (congrArg (fun k => k0_pay27 N.args.x (N.args.kh 2) (ix2 n k)) (Fin.ext (by simp only; omega))).trans (N.read_h2 n c)
  | 3 =>
    pointwise [Args.haug, k0_pay31]
    iterate 9 refine (dif_neg (by omega)).trans ?_
    refine (dif_pos (by omega)).trans ?_
    exact (congrArg (fun k => k0_pay30 N.args.x (N.args.kh 3) (ix2 n k)) (Fin.ext (by simp only; omega))).trans (N.read_h3 n c)

set_option maxHeartbeats 1600000 in
theorem read_ones (h : Fin 4) (n : Fin 2048) : N.args.haug (ix2 n ⟨24 * h + 16, by omega⟩) = 1 := by
  match h with
  | 0 => pointwise [Args.haug, k0_pay31, k0_pay19]
  | 1 => pointwise [Args.haug, k0_pay31, k0_pay19]
  | 2 => pointwise [Args.haug, k0_pay31, k0_pay19]
  | 3 => pointwise [Args.haug, k0_pay31, k0_pay19]

end Cert.Proof.Net

end
-- ==== Proof.ReadB.lean ====
module

public import proofs.«01_k».proof.Proof.ReadA

/-!
The kernel's second phase on real inputs: the blocks of the hidden layer and of the second layer's logits hold the
reals the network names.
-/

@[expose] public section

set_option maxRecDepth 16384

noncomputable section

namespace Cert.Proof.Net

open Cert.KernelIdeal Cert.KernelIdeal.Gen
open Idealize.ShloMosaic
open Cert.KernelIdeal.Proof

/-- Row `r` of block `j`. -/
def row (j : Fin 2) (r : Fin 1024) : Fin 2048 := ⟨1024 * j.val + r.val, by omega⟩

theorem rowBlk_read {α : Type} {n : ℕ} (j : Fin 2) (X : (⟨2, ![2048, n]⟩ : Shape).Idx → α) (r : Fin 1024) (c : Fin n) :
    rowBlk j X (ix2 r c) = X (ix2 (row j r) c) := rfl

/-- What holds of every row of every block holds of every row of the glued array. -/
theorem glueRows_read {α : Type} {n : ℕ} {P : Fin 2 → (⟨2, ![1024, n]⟩ : Shape).Idx → α} {c : Fin n}
    {X : Fin 2048 → α} (h : ∀ j r, P j (ix2 r c) = X (row j r)) (m : Fin 2048) : glueRows P (ix2 m c) = X m := by
  refine (h _ _).trans (congrArg X (Fin.ext ?_))
  show 1024 * ((m : ℕ) / 1024) + (m : ℕ) % 1024 = m
  omega

theorem glueCols_read {α : Type} {P : Fin 2 → (⟨2, ![1, 1024]⟩ : Shape).Idx → α}
    {X : Fin 2048 → α} (h : ∀ j r, P j (ix2 0 r) = X (row j r)) (m : Fin 2048) : glueCols P (ix2 0 m) = X m := by
  refine (h _ _).trans (congrArg X (Fin.ext ?_))
  show 1024 * ((m : ℕ) / 1024) + (m : ℕ) % 1024 = m
  omega

variable (N : Net)

theorem read_a (n m : Fin 2048) : N.args.a (ix2 n m) = (N.a n m : EReal) := rfl

/-! ### The four heads -/

/-- The last head of a block, which the kernel computes together with the hidden layer. -/
def head3 (a : FVec Ideal S1024x2048 .bf16) (f : FVec Ideal S2048x96 .bf16) (p : FVec Ideal S1024x2048 .f32) :
    FVec Ideal S1024x16 .f32 :=
  have s : FVec Ideal S1024x24 .f32 := matmul dot_S1024x2048_S2048x24_S1024x24_1_0_0_1_n_n none
    (mulf (truncf .bf16 p bitsLt_bf16_f32) a)
    (extractStridedSlice S2048x24 ![0, 72] f slices_S2048x96_o0_72_S2048x24) (constant S1024x24 .f32 0x00000000#32)
  divf (extractStridedSlice S1024x16 ![0, 0] s slices_S1024x24_o0_0_S1024x16)
    (broadcastTo S1024x16 (extractStridedSlice S1024x1 ![0, 16] s slices_S1024x24_o0_16_S1024x1)
      broadcasts_S1024x1_S1024x16)

/-- The four heads of a block side by side. -/
def heads (j : Fin 2) : FVec Ideal S1024x64 .f32 :=
  concatenate S1024x64 1
    [⟨S1024x16, k0_pay12 (k0_pay9 (rowBlk j N.args.a)) N.args.haug
        (k0_pay11 (rowBlk j N.args.ea) (rowBlk j N.args.eb) N.args.et N.args.ef)⟩,
     ⟨S1024x16, k0_pay13 (k0_pay9 (rowBlk j N.args.a)) (rowBlk j N.args.ea) (rowBlk j N.args.eb) N.args.et N.args.ef
        N.args.haug⟩,
     ⟨S1024x16, k0_pay14 (k0_pay9 (rowBlk j N.args.a)) (rowBlk j N.args.ea) (rowBlk j N.args.eb) N.args.et N.args.ef
        N.args.haug⟩,
     ⟨S1024x16, head3 (k0_pay9 (rowBlk j N.args.a)) N.args.haug
        (k0_pay15 (rowBlk j N.args.ea) (rowBlk j N.args.eb) N.args.et N.args.ef)⟩]
    concatenates_S1024x16_S1024x16_S1024x16_S1024x16_S1024x64_d1

section Heads

variable (a : FVec Ideal S1024x2048 .f32) (f : FVec Ideal S2048x96 .bf16) (ea eb : FVec Ideal S1024x4 .f32)
  (et ef : FVec Ideal S4x2048 .f32) (r : Fin 1024) (c : Fin 16)

/-- One head's quotient at an entry, as the kernel computes it. -/
def quot (h : Fin 4) : EReal :=
  Ideal.div
    (∑ m, max (ea (ix2 r h) * et (ix2 h m)) (eb (ix2 r h) * ef (ix2 h m)) * a (ix2 r m)
      * f (ix2 m ⟨24 * h + c, by omega⟩))
    (∑ m, max (ea (ix2 r h) * et (ix2 h m)) (eb (ix2 r h) * ef (ix2 h m)) * a (ix2 r m)
      * f (ix2 m ⟨24 * h + 16, by omega⟩))

theorem head0_at : k0_pay12 (F := Ideal) (k0_pay9 a) f (k0_pay11 ea eb et ef) (ix2 r c) = quot a f ea eb et ef r c 0 := by
  unfold quot
  pointwise [k0_pay12, k0_pay11, k0_pay9]

theorem head1_at : k0_pay13 (F := Ideal) (k0_pay9 a) ea eb et ef f (ix2 r c) = quot a f ea eb et ef r c 1 := by
  unfold quot
  pointwise [k0_pay13, k0_pay9]

theorem head2_at : k0_pay14 (F := Ideal) (k0_pay9 a) ea eb et ef f (ix2 r c) = quot a f ea eb et ef r c 2 := by
  unfold quot
  pointwise [k0_pay14, k0_pay9]

theorem head3_at : head3 (k0_pay9 a) f (k0_pay15 ea eb et ef) (ix2 r c) = quot a f ea eb et ef r c 3 := by
  unfold quot
  pointwise [head3, k0_pay15, k0_pay9]

end Heads

/-- On the network's tables the quotient is the mean the network names. -/
theorem quot_eq {N : Net} (hN : N.Graph) (j : Fin 2) (r : Fin 1024) (c : Fin 16) (h : Fin 4) :
    quot (rowBlk j N.args.a) N.args.haug (rowBlk j N.args.ea) (rowBlk j N.args.eb) N.args.et N.args.ef r c h
      = (N.g1 h (row j r) c : EReal) :=
  quot_mean (fun m => N.read_p h (row j r) m) (fun m => N.read_a (row j r) m) (fun m => N.read_feat h m c)
    (fun m => N.read_ones h m) (Real.exp_ne_zero _) (fun m => mul_assoc _ _ _) (sum_weight_ne_zero hN _ (row j r))

theorem read_heads {N : Net} (hN : N.Graph) (j : Fin 2) (r : Fin 1024) (h : Fin 4) (c : Fin 16) :
    N.heads j (ix2 r ⟨16 * h + c, by omega⟩) = (N.g1 h (row j r) c : EReal) := by
  rw [← quot_eq hN]
  match h with
  | 0 =>
    pointwise [heads]
    exact head0_at _ _ _ _ _ _ r c
  | 1 =>
    pointwise [heads]
    exact head1_at _ _ _ _ _ _ r c
  | 2 =>
    pointwise [heads]
    iterate 2 refine (dif_neg (by omega)).trans ?_
    refine (dif_pos (by omega)).trans ?_
    refine Eq.trans ?_ (head2_at _ _ _ _ _ _ r c)
    exact congrArg (fun k => k0_pay14 (k0_pay9 (rowBlk j N.args.a)) (rowBlk j N.args.ea) (rowBlk j N.args.eb) N.args.et
      N.args.ef N.args.haug (ix2 r k)) (Fin.ext (by simp only; omega))
  | 3 =>
    pointwise [heads]
    iterate 3 refine (dif_neg (by omega)).trans ?_
    refine Eq.trans ?_ (head3_at _ _ _ _ _ _ r c)
    exact congrArg (fun k => head3 (k0_pay9 (rowBlk j N.args.a)) N.args.haug
      (k0_pay15 (rowBlk j N.args.ea) (rowBlk j N.args.eb) N.args.et N.args.ef) (ix2 r k)) (Fin.ext (by simp only; omega))

/-! ### The hidden layer -/

/-- The hidden layer of a block. -/
def hidBlk (j : Fin 2) : FVec Ideal S1024x64 .f32 :=
  have v : FVec Ideal S1024x64 .f32 := addf (N.heads j)
    (broadcastTo S1024x64 (shapeCast S1x64 N.args.b1 shapeCasts_S64_S1x64) broadcasts_S1x64_S1024x64)
  addf (select (cmpf .ogt v (broadcast S1024x64 (Scalar.ofBits .f32 0x00000000#32))) v
    (subf (exp v) (broadcast S1024x64 (Scalar.ofBits .f32 0x3F800000#32)))) (rowBlk j N.args.lemb)

theorem elu_coe (z : ℝ) : (if (0 : EReal) < (z : EReal) then (z : EReal) else Ideal.exp z - 1) = (elu z : EReal) := by
  unfold elu
  simp only [EReal.coe_pos]
  split_ifs
  · rfl
  · rw [Ideal.exp_coe, ← EReal.coe_one, ← EReal.coe_sub]

theorem read_pre {N : Net} (hN : N.Graph) (j : Fin 2) (r : Fin 1024) (k : Fin 64) :
    N.heads j (ix2 r k) + (N.b1 k : EReal) = (N.v1 (row j r) k : EReal) := by
  have e : k = ⟨16 * (⟨k / 16, by omega⟩ : Fin 4) + (⟨k % 16, by omega⟩ : Fin 16), by simp only; omega⟩ :=
    Fin.ext (by simp only; omega)
  have h := read_heads hN j r ⟨k / 16, by omega⟩ ⟨k % 16, by omega⟩
  rw [← e] at h
  rw [h, ← EReal.coe_add]
  rfl

theorem read_hidBlk {N : Net} (hN : N.Graph) (j : Fin 2) (r : Fin 1024) (k : Fin 64) :
    N.hidBlk j (ix2 r k) = (N.hid (row j r) k : EReal) := by
  have hb : N.args.b1 (ix1 k) = (N.b1 k : EReal) := rfl
  pointwise [hidBlk, rowBlk_read, hb, read_pre hN, read_emb]
  rw [elu_coe, ← EReal.coe_add]
  rfl

theorem h2b_eq (j : Fin 2) : N.args.h2b j
    = matmul (φ₂ := .f32) dot_S1024x64_S64x1000_S1024x1000_1_0_0_1_n_n none (N.hidBlk j)
      (shapeCast S64x1000 N.args.k2 shapeCasts_S64x1x1000_S64x1000 : FVec Ideal S64x1000 .f32) (constant S1024x1000 .f32 0x00000000#32) := rfl

theorem read_h2b {N : Net} (hN : N.Graph) (j : Fin 2) (r : Fin 1024) (o : Fin 1000) :
    N.args.h2b j (ix2 r o) = (N.h2 (row j r) o : EReal) := by
  have hk : ∀ k, N.args.k2 (ix3 k 0 o) = (N.k2 k o : EReal) := fun _ => rfl
  rw [h2b_eq]
  pointwise [read_hidBlk hN, hk]
  simp only [← EReal.coe_mul, coe_sum]
  rfl

/-! ### The stored blocks -/

theorem read_h2Blk {N : Net} (hN : N.Graph) (j : Fin 2) (r : Fin 1024) (o : Fin 1000) :
    N.args.h2Blk j (ix2 r ⟨o, by omega⟩) = (N.h2 (row j r) o : EReal) := by
  refine Eq.trans ?_ (read_h2b hN j r o)
  pointwise [Args.h2Blk, k0_pay17, Args.h2b]

theorem read_h2Blk_ones (j : Fin 2) (r : Fin 1024) : N.args.h2Blk j (ix2 r 1000) = 1 := by
  pointwise [Args.h2Blk, k0_pay17]

theorem read_s2Blk {N : Net} (hN : N.Graph) (j : Fin 2) (r : Fin 1024) :
    N.args.s2Blk j (ix2 r 0) = (N.s2 (row j r) : EReal) := by
  have hs : ∀ o, N.args.as2 (ix2 0 o) = (N.as2 o : EReal) := fun _ => rfl
  have hb := read_h2b hN j r
  unfold Args.h2b at hb
  pointwise [Args.s2Blk, k0_pay2, k0_pay18, hb, hs]
  simp only [← EReal.coe_mul, coe_sum]
  rfl

theorem read_t2Blk {N : Net} (hN : N.Graph) (j : Fin 2) (r : Fin 1024) :
    N.args.t2Blk j (ix2 0 r) = (N.t2 (row j r) : EReal) := by
  have hs : ∀ o, N.args.an2 (ix2 0 o) = (N.an2 o : EReal) := fun _ => rfl
  pointwise [Args.t2Blk, k0_pay3, read_h2b hN, hs]
  simp only [mul_comm (N.an2 _ : EReal), ← EReal.coe_mul, coe_sum]
  rfl

theorem read_abfBlk (j : Fin 2) (r : Fin 1024) (m : Fin 2048) :
    N.args.abfBlk j (ix2 r m) = (N.a (row j r) m : EReal) := by
  pointwise [Args.abfBlk, k0_pay10]
  rfl

/-! ### The glued arrays -/

theorem read_H2 {N : Net} (hN : N.Graph) (n : Fin 2048) (o : Fin 1000) :
    N.args.h2 (ix2 n ⟨o, by omega⟩) = (N.h2 n o : EReal) :=
  glueRows_read (X := fun n => (N.h2 n o : EReal)) (fun j r => read_h2Blk hN j r o) n

theorem read_H2_ones (n : Fin 2048) : N.args.h2 (ix2 n 1000) = 1 :=
  glueRows_read (X := fun _ => (1 : EReal)) (fun j r => N.read_h2Blk_ones j r) n

theorem read_S2 {N : Net} (hN : N.Graph) (n : Fin 2048) : N.args.s2 (ix2 n 0) = (N.s2 n : EReal) :=
  glueRows_read (X := fun n => (N.s2 n : EReal)) (fun j r => read_s2Blk hN j r) n

theorem read_T2 {N : Net} (hN : N.Graph) (n : Fin 2048) : N.args.t2 (ix2 0 n) = (N.t2 n : EReal) :=
  glueCols_read (X := fun n => (N.t2 n : EReal)) (fun j r => read_t2Blk hN j r) n

theorem read_A (n m : Fin 2048) : N.args.abf (ix2 n m) = (N.a n m : EReal) :=
  glueRows_read (X := fun n => (N.a n m : EReal)) (fun j r => N.read_abfBlk j r m) n

end Cert.Proof.Net

end
-- ==== Proof.ReadC.lean ====
module

public import proofs.«01_k».proof.Proof.ReadB

/-!
The kernel's third phase on real inputs: the result holds the network's output.
-/

@[expose] public section

set_option maxRecDepth 16384

noncomputable section

namespace Cert.Proof.Net

open Cert.KernelIdeal Cert.KernelIdeal.Gen
open Idealize.ShloMosaic
open Cert.KernelIdeal.Proof

variable (N : Net)

/-- What the kernel subtracts from row `n`'s exponents in the second layer. -/
def u2 (n : Fin 2048) : ℝ := leaky (N.s2 n + top N.t2)

/-- The second layer's weights, up to a factor of the row's own. -/
theorem read_p2 {N : Net} (hN : N.Graph) (j : Fin 2) (r : Fin 1024) (m : Fin 2048) :
    k0_pay8 (F := Ideal) (rowBlk j N.args.s2) N.args.t2 (ix2 r m)
      = ((Real.exp (-N.u2 (row j r)) * Real.exp (leaky (N.s2 (row j r) + N.t2 m)) : ℝ) : EReal) := by
  have hs : rowBlk j N.args.s2 (ix2 r 0) = (N.s2 (row j r) : EReal) := read_S2 hN (row j r)
  pointwise [k0_pay8, read_T2 hN, hs, slope_word, bot_word]
  have hT : (Finset.univ.fold max (⊥ : EReal) fun z : Fin 1 × Fin 2048 => (N.t2 z.2 : EReal)) = (top N.t2 : EReal) :=
    (fold_max_pair fun m => (N.t2 m : EReal)).trans (fold_max_coe _)
  rw [hT]
  simp only [← EReal.coe_mul, ← EReal.coe_add, ← EReal.coe_sub, coe_max, Ideal.exp_coe]
  exact congrArg _ (max_exp _ _ _ _)

/-- The second layer's output before the softmax. -/
def preBlk (j : Fin 2) : FVec Ideal S1024x1000 .f32 :=
  have s : FVec Ideal S1024x1024 .f32 := matmul (φ₂ := .bf16) dot_S1024x2048_S2048x1024_S1024x1024_1_0_0_1_n_n none
    (mulf (k0_pay8 (F := Ideal) (rowBlk j N.args.s2) N.args.t2) (rowBlk j N.args.abf)) N.args.h2
    (constant S1024x1024 .f32 0x00000000#32)
  addf (divf (extractStridedSlice S1024x1000 ![0, 0] s slices_S1024x1024_o0_0_S1024x1000)
      (broadcastTo S1024x1000 (extractStridedSlice S1024x1 ![0, 1000] s slices_S1024x1024_o0_1000_S1024x1)
        broadcasts_S1024x1_S1024x1000))
    (broadcastTo S1024x1000 (shapeCast S1x1000 N.args.b2 shapeCasts_S1000_S1x1000) broadcasts_S1x1000_S1024x1000)

theorem read_preBlk {N : Net} (hN : N.Graph) (j : Fin 2) (r : Fin 1024) (o : Fin 1000) :
    N.preBlk j (ix2 r o) = N.v2 (row j r) o := by
  have hb : N.args.b2 (ix1 o) = N.b2 o := rfl
  pointwise [preBlk, hb]
  refine (congrArg (· + N.b2 o) (quot_mean (fun m => read_p2 hN j r m) (fun m => N.read_A (row j r) m)
    (fun m => read_H2 hN m o) (fun m => N.read_H2_ones m) (Real.exp_ne_zero _) (fun m => mul_assoc _ _ _)
    (sum_weight_ne_zero hN _ (row j r)))).trans ?_
  rfl

/-- The row softmax over an array, as the kernel writes it. -/
def softBlk (v : FVec Ideal S1024x1000 .f32) : FVec Ideal S1024x1000 .f32 :=
  have e : FVec Ideal S1024x1000 .f32 := exp (subf v (broadcastTo S1024x1000 (shapeCast S1024x1
    (multiReduction .maximumf [1] S1024 v 0xFF800000#32 reduces_S1024x1000_S1024 (.inl rfl) rfl)
    shapeCasts_S1024_S1024x1) broadcasts_S1024x1_S1024x1000))
  divf e (broadcastTo S1024x1000 (shapeCast S1024x1
    (multiReduction .add [1] S1024 e 0x00000000#32 reduces_S1024x1000_S1024 (.inl rfl) rfl)
    shapeCasts_S1024_S1024x1) broadcasts_S1024x1_S1024x1000)

theorem softBlk_read (v : FVec Ideal S1024x1000 .f32) (w : Fin 1000 → EReal) (r : Fin 1024)
    (h : ∀ o, v (ix2 r o) = w o) (o : Fin 1000) : softBlk v (ix2 r o) = soft w o := by
  rw [← show (fun p => (v (ix2 r p) : EReal)) = w from funext h]
  pointwise [softBlk, bot_word, soft]

theorem outBlk_eq (j : Fin 2) : N.args.outBlk j = softBlk (N.preBlk j) := rfl

theorem read_out {N : Net} (hN : N.Graph) (n : Fin 2048) (o : Fin 1000) : N.args.out (ix2 n o) = N.y n o :=
  glueRows_read (X := fun n => N.y n o) (fun j r => by
    rw [outBlk_eq]
    exact softBlk_read (N.preBlk j) (N.v2 (row j r)) r (read_preBlk hN j r) o) n

end Cert.Proof.Net

end
-- ==== Proof.RefRead.lean ====
module

public import proofs.«01_k».proof.Proof.Net
public import proofs.«01_k».proof.Proof.Gen.ReferenceIdeal.Run

/-!
The reference on real inputs: each of its stages holds the reals the network names.
-/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo

/-- The reference's argument buffers hold the network's inputs. -/
structure Holds (V : Valuation τ sig (Elt Ideal)) (N : Net) : Prop where
  x : ∀ n f, (V (Proc.devRef .tc main_arg0) : FVec Ideal S2048x128 .f32) (ix2 n f) = (N.x n f : EReal)
  a : ∀ n m, (V (Proc.devRef .tc main_arg1) : FVec Ideal S2048x2048 .f32) (ix2 n m) = (N.a n m : EReal)
  lay : ∀ n f, (V (Proc.devRef .tc main_arg2) : FVec Ideal S2048x5 .f32) (ix2 n f) = (N.lay n f : EReal)
  k1 : ∀ f h c, (V (Proc.devRef .tc main_arg3) : FVec Ideal S128x4x16 .f32) (ix3 f h c) = (N.k1 f h c : EReal)
  as1 : ∀ h c, (V (Proc.devRef .tc main_arg4) : FVec Ideal S4x16 .f32) (ix2 h c) = (N.as1 h c : EReal)
  an1 : ∀ h c, (V (Proc.devRef .tc main_arg5) : FVec Ideal S4x16 .f32) (ix2 h c) = (N.an1 h c : EReal)
  b1 : ∀ k, (V (Proc.devRef .tc main_arg6) : FVec Ideal S64 .f32) (ix1 k) = (N.b1 k : EReal)
  wl : ∀ f k, (V (Proc.devRef .tc main_arg7) : FVec Ideal S5x64 .f32) (ix2 f k) = (N.wl f k : EReal)
  bl : ∀ k, (V (Proc.devRef .tc main_arg8) : FVec Ideal S64 .f32) (ix1 k) = (N.bl k : EReal)
  k2 : ∀ k o, (V (Proc.devRef .tc main_arg9) : FVec Ideal S64x1x1000 .f32) (ix3 k 0 o) = (N.k2 k o : EReal)
  as2 : ∀ o, (V (Proc.devRef .tc main_arg10) : FVec Ideal S1x1000 .f32) (ix2 0 o) = (N.as2 o : EReal)
  an2 : ∀ o, (V (Proc.devRef .tc main_arg11) : FVec Ideal S1x1000 .f32) (ix2 0 o) = (N.an2 o : EReal)
  b2 : ∀ o, (V (Proc.devRef .tc main_arg12) : FVec Ideal S1000 .f32) (ix1 o) = N.b2 o

variable {V : Valuation τ sig (Elt Ideal)} {N : Net}

theorem read_v0 (H : Holds V N) (n : Fin 2048) (h : Fin 4) (c : Fin 16) :
    (res_main_v0 V : FVec Ideal S2048x4x16 .f32) (ix3 n h c) = (N.h1 h n c : EReal) := by
  have hx := H.x
  have hk := H.k1
  pointwise [res_main_v0, hx, hk]
  simp only [← EReal.coe_mul, coe_sum]
  rfl

theorem read_v9 (H : Holds V N) (n m : Fin 2048) (h : Fin 4) :
    (res_main_v9 V : FVec Ideal S2048x2048x4 .f32) (ix3 n m h) = ((N.s1 h n + N.t1 h m : ℝ) : EReal) := by
  have hs := H.as1
  have ht := H.an1
  have h0 := read_v0 H
  pointwise [res_main_v9, hs, ht, h0]
  simp only [mul_comm (N.as1 _ _ : EReal), mul_comm (N.an1 _ _ : EReal), ← EReal.coe_mul, coe_sum, ← EReal.coe_add]
  rfl

theorem read_v14 (H : Holds V N) (n m : Fin 2048) (h : Fin 4) :
    (res_main_v14 V : FVec Ideal S2048x2048x4 .f32) (ix3 n m h)
      = if 0 < N.a n m then ((leaky (N.s1 h n + N.t1 h m) : ℝ) : EReal) else ⊥ := by
  have ha := H.a
  have h9 := read_v9 H
  pointwise [res_main_v14, ha, h9, bot_word, id_eq, slope_word]
  simp only [EReal.coe_pos, EReal.coe_nonneg, leaky_eq, ← EReal.coe_mul]
  split_ifs <;> rfl

/-- The first layer's row maxima. -/
def top1 (v : FVec Ideal S2048x2048x4 .f32) : FVec Ideal S2048x4 .f32 :=
  Host.reduce FloatOps.maximumf v (constant S_ .f32 0xFF800000#32) reducesTo_S2048x2048x4_S2048x4_d1 h_S_

theorem read_top1 (v : FVec Ideal S2048x2048x4 .f32) (n : Fin 2048) (h : Fin 4) :
    top1 v (ix2 n h) = Finset.univ.fold max (⊥ : EReal) fun m => (v (ix3 n m h) : EReal) :=
  reduce_mid reducesTo_S2048x2048x4_S2048x4_d1 h_S_ v n h

/-- The exponentials of logits less their row's maximum `w`, as the first layer writes them. -/
def shift1 (v : FVec Ideal S2048x2048x4 .f32) (w : FVec Ideal S2048x4 .f32) : FVec Ideal S2048x2048x4 .f32 :=
  Host.exp (subf v (broadcastInDim S2048x2048x4 ![0, 1, 2] bcast_S2048x1x4_S2048x2048x4_0_1_2
    (broadcastInDim S2048x1x4 ![0, 2] bcast_S2048x4_S2048x1x4_0_2
      (maximumf (broadcastInDim S2048x4 ![] bcast_S_S2048x4 (constant S_ .f32 0xFF800000#32)) w))))

theorem read_shift1 (v : FVec Ideal S2048x2048x4 .f32) (w : FVec Ideal S2048x4 .f32) (n m : Fin 2048) (h : Fin 4) :
    shift1 v w (ix3 n m h) = Ideal.exp ((v (ix3 n m h) : EReal) - max ⊥ (w (ix2 n h) : EReal)) := by
  pointwise [shift1, bot_word]

theorem read_row1 (v : FVec Ideal S2048x2048x4 .f32) (n m : Fin 2048) (h : Fin 4) :
    shift1 v (top1 v) (ix3 n m h) = Ideal.exp ((v (ix3 n m h) : EReal)
      - max ⊥ (Finset.univ.fold max (⊥ : EReal) fun m => (v (ix3 n m h) : EReal))) := by
  rw [read_shift1, read_top1]

/-- A masked row of logits, exponentiated. -/
theorem weights1 (v : FVec Ideal S2048x2048x4 .f32) (a z : Fin 2048 → ℝ) (n : Fin 2048) (h : Fin 4)
    (hv : ∀ m, v (ix3 n m h) = if 0 < a m then (z m : EReal) else ⊥) (ha : ∀ m, a m = 0 ∨ a m = 1) (hs : ∃ m, a m = 1) :
    ∃ M : ℝ, ∀ m, shift1 v (top1 v) (ix3 n m h) = ((Real.exp (-M) * (Real.exp (z m) * a m) : ℝ) : EReal) := by
  obtain ⟨M, hM⟩ := masked_row (e := fun m => (v (ix3 n m h) : EReal)) hv ha hs
  exact ⟨M, fun m => (read_row1 v n m h).trans (hM m)⟩

theorem v21_eq (V : Valuation τ sig (Elt Ideal)) : res_main_v21 V = shift1 (res_main_v14 V) (top1 (res_main_v14 V)) := rfl

theorem read_v21 (H : Holds V N) (hN : N.Graph) (n : Fin 2048) (h : Fin 4) :
    ∃ M : ℝ, ∀ m, (res_main_v21 V : FVec Ideal S2048x2048x4 .f32) (ix3 n m h)
      = ((Real.exp (-M) * N.w1 h n m : ℝ) : EReal) := by
  rw [v21_eq]
  exact weights1 _ (N.a n) _ n h (fun m => read_v14 H n m h) (hN.bit n) (hN.some n)

theorem read_v31 (H : Holds V N) (hN : N.Graph) (n : Fin 2048) (k : Fin 64) :
    (res_main_v31 V : FVec Ideal S2048x64 .f32) (ix2 n k) = (N.v1 n k : EReal) := by
  have hb := H.b1
  have h0 := read_v0 H
  obtain ⟨M, hM⟩ := read_v21 H hN n ⟨k / 16, by omega⟩
  pointwise [res_main_v31, hb]
  refine (congrArg (· + (N.b1 k : EReal)) (sum_mean hM (fun m => h0 m ⟨k / 16, by omega⟩ ⟨k % 16, by omega⟩)
    (Real.exp_ne_zero _) (Net.sum_weight_ne_zero hN _ n))).trans ?_
  rw [← EReal.coe_add]
  rfl

theorem elu_one (z : ℝ) : (if (0 : EReal) < (z : EReal) then (z : EReal)
    else Ideal.exp (if (0 : EReal) < (z : EReal) then 0 else (z : EReal)) - 1) = (elu z : EReal) := by
  unfold elu
  simp only [EReal.coe_pos]
  split_ifs
  · rfl
  · rw [Ideal.exp_coe, ← EReal.coe_one, ← EReal.coe_sub]

theorem max_zero_coe (z : ℝ) : max (z : EReal) 0 = ((max z 0 : ℝ) : EReal) := by
  rw [← EReal.coe_zero, coe_max]

theorem read_v39 (H : Holds V N) (hN : N.Graph) (n : Fin 2048) (o : Fin 1000) :
    (res_main_v39 V : FVec Ideal S2048x1x1000 .f32) (ix3 n 0 o) = (N.h2 n o : EReal) := by
  have hb := H.bl
  have hw := H.wl
  have hl := H.lay
  have hk := H.k2
  have h31 := read_v31 H hN
  pointwise [res_main_v39, h31, hb, hw, hl, hk, id_eq]
  simp only [elu_one, ← EReal.coe_mul, coe_sum, ← EReal.coe_add, max_zero_coe]
  rfl

end Cert.Proof.Ref

end
-- ==== Proof.RefTop.lean ====
module

public import proofs.«01_k».proof.Proof.RefRead

/-!
The reference on real inputs: its second layer and its row softmax.
-/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo

variable {V : Valuation τ sig (Elt Ideal)} {N : Net}

/-! ### The second layer -/

theorem read_v48 (H : Holds V N) (hN : N.Graph) (n m : Fin 2048) :
    (res_main_v48 V : FVec Ideal S2048x2048x1 .f32) (ix3 n m 0) = ((N.s2 n + N.t2 m : ℝ) : EReal) := by
  have hs := H.as2
  have ht := H.an2
  have h0 := read_v39 H hN
  pointwise [res_main_v48, hs, ht, h0]
  simp only [mul_comm (N.as2 _ : EReal), mul_comm (N.an2 _ : EReal), ← EReal.coe_mul, coe_sum, ← EReal.coe_add]
  rfl

theorem read_v53 (H : Holds V N) (hN : N.Graph) (n m : Fin 2048) :
    (res_main_v53 V : FVec Ideal S2048x2048x1 .f32) (ix3 n m 0)
      = if 0 < N.a n m then ((leaky (N.s2 n + N.t2 m) : ℝ) : EReal) else ⊥ := by
  have ha := H.a
  have h9 := read_v48 H hN
  pointwise [res_main_v53, ha, h9, bot_word, id_eq, slope_word]
  simp only [EReal.coe_pos, EReal.coe_nonneg, leaky_eq, ← EReal.coe_mul]
  split_ifs <;> rfl

/-- The second layer's row maxima. -/
def top2 (v : FVec Ideal S2048x2048x1 .f32) : FVec Ideal S2048x1 .f32 :=
  Host.reduce FloatOps.maximumf v (constant S_ .f32 0xFF800000#32) reducesTo_S2048x2048x1_S2048x1_d1 h_S_

theorem read_top2 (v : FVec Ideal S2048x2048x1 .f32) (n : Fin 2048) :
    top2 v (ix2 n 0) = Finset.univ.fold max (⊥ : EReal) fun m => (v (ix3 n m 0) : EReal) :=
  reduce_mid reducesTo_S2048x2048x1_S2048x1_d1 h_S_ v n 0

/-- The exponentials of logits less their row's maximum `w`, as the second layer writes them. -/
def shift2 (v : FVec Ideal S2048x2048x1 .f32) (w : FVec Ideal S2048x1 .f32) : FVec Ideal S2048x2048x1 .f32 :=
  Host.exp (subf v (broadcastInDim S2048x2048x1 ![0, 1, 2] bcast_S2048x1x1_S2048x2048x1_0_1_2
    (broadcastInDim S2048x1x1 ![0, 2] bcast_S2048x1_S2048x1x1_0_2
      (maximumf (broadcastInDim S2048x1 ![] bcast_S_S2048x1 (constant S_ .f32 0xFF800000#32)) w))))

theorem read_shift2 (v : FVec Ideal S2048x2048x1 .f32) (w : FVec Ideal S2048x1 .f32) (n m : Fin 2048) :
    shift2 v w (ix3 n m 0) = Ideal.exp ((v (ix3 n m 0) : EReal) - max ⊥ (w (ix2 n 0) : EReal)) := by
  pointwise [shift2, bot_word]

theorem read_row2 (v : FVec Ideal S2048x2048x1 .f32) (n m : Fin 2048) :
    shift2 v (top2 v) (ix3 n m 0) = Ideal.exp ((v (ix3 n m 0) : EReal)
      - max ⊥ (Finset.univ.fold max (⊥ : EReal) fun m => (v (ix3 n m 0) : EReal))) := by
  rw [read_shift2, read_top2]

/-- A masked row of logits, exponentiated. -/
theorem weights2 (v : FVec Ideal S2048x2048x1 .f32) (a z : Fin 2048 → ℝ) (n : Fin 2048)
    (hv : ∀ m, v (ix3 n m 0) = if 0 < a m then (z m : EReal) else ⊥) (ha : ∀ m, a m = 0 ∨ a m = 1) (hs : ∃ m, a m = 1) :
    ∃ M : ℝ, ∀ m, shift2 v (top2 v) (ix3 n m 0) = ((Real.exp (-M) * (Real.exp (z m) * a m) : ℝ) : EReal) := by
  obtain ⟨M, hM⟩ := masked_row (e := fun m => (v (ix3 n m 0) : EReal)) hv ha hs
  exact ⟨M, fun m => (read_row2 v n m).trans (hM m)⟩

theorem v60_eq (V : Valuation τ sig (Elt Ideal)) : res_main_v60 V = shift2 (res_main_v53 V) (top2 (res_main_v53 V)) := rfl

theorem read_v60 (H : Holds V N) (hN : N.Graph) (n : Fin 2048) :
    ∃ M : ℝ, ∀ m, (res_main_v60 V : FVec Ideal S2048x2048x1 .f32) (ix3 n m 0)
      = ((Real.exp (-M) * N.w2 n m : ℝ) : EReal) := by
  rw [v60_eq]
  exact weights2 _ (N.a n) _ n (fun m => read_v53 H hN n m) (hN.bit n) (hN.some n)

theorem read_v70 (H : Holds V N) (hN : N.Graph) (n : Fin 2048) (o : Fin 1000) :
    (res_main_v70 V : FVec Ideal S2048x1000 .f32) (ix2 n o) = N.v2 n o := by
  have hb := H.b2
  obtain ⟨M, hM⟩ := read_v60 H hN n
  pointwise [res_main_v70, hb]
  refine (congrArg (· + N.b2 o) (sum_mean hM (fun m => read_v39 H hN m o)
    (Real.exp_ne_zero _) (Net.sum_weight_ne_zero hN _ n))).trans ?_
  rfl

/-! ### The row softmax -/

/-- The row maxima of the logits. -/
def top3 (v : FVec Ideal S2048x1000 .f32) : FVec Ideal S2048 .f32 :=
  Host.reduce FloatOps.maximumf v (constant S_ .f32 0xFF800000#32) reducesTo_S2048x1000_S2048_d1 h_S_

theorem read_top3 (v : FVec Ideal S2048x1000 .f32) (n : Fin 2048) :
    top3 v (ix1 n) = Finset.univ.fold max (⊥ : EReal) fun o => (v (ix2 n o) : EReal) :=
  reduce_last reducesTo_S2048x1000_S2048_d1 h_S_ v n

/-- The exponentials of logits less their row's maximum `w`. -/
def shift3 (v : FVec Ideal S2048x1000 .f32) (w : FVec Ideal S2048 .f32) : FVec Ideal S2048x1000 .f32 :=
  Host.exp (subf v (broadcastInDim S2048x1000 ![0, 1] bcast_S2048x1_S2048x1000_0_1
    (broadcastInDim S2048x1 ![0] bcast_S2048_S2048x1_0
      (maximumf (broadcastInDim S2048 ![] bcast_S_S2048 (constant S_ .f32 0xFF800000#32)) w))))

/-- An array over its row sums. -/
def quot (e : FVec Ideal S2048x1000 .f32) : FVec Ideal S2048x1000 .f32 :=
  Host.divf e (broadcastInDim S2048x1000 ![0, 1] bcast_S2048x1_S2048x1000_0_1
    (broadcastInDim S2048x1 ![0] bcast_S2048_S2048x1_0
      (Host.reduceAdd e (constant S_ .f32 0x00000000#32) reducesTo_S2048x1000_S2048_d1 h_S_)))

theorem read_shift3 (v : FVec Ideal S2048x1000 .f32) (w : FVec Ideal S2048 .f32) (n : Fin 2048) (o : Fin 1000) :
    shift3 v w (ix2 n o) = Ideal.exp ((v (ix2 n o) : EReal) - max ⊥ (w (ix1 n) : EReal)) := by
  pointwise [shift3, bot_word]

theorem read_quot (e : FVec Ideal S2048x1000 .f32) (n : Fin 2048) (o : Fin 1000) :
    quot e (ix2 n o) = Ideal.div (e (ix2 n o)) (∑ p, (e (ix2 n p) : EReal)) := by
  pointwise [quot]

theorem read_soft (v : FVec Ideal S2048x1000 .f32) (w : Fin 1000 → EReal) (n : Fin 2048)
    (h : ∀ o, v (ix2 n o) = w o) (o : Fin 1000) : quot (shift3 v (top3 v)) (ix2 n o) = soft w o := by
  rw [← show (fun p => (v (ix2 n p) : EReal)) = w from funext h, read_quot]
  simp only [read_shift3, read_top3, max_eq_right (bot_le : (⊥ : EReal) ≤ _)]
  rfl

/-- The reference's result term. -/
def result (V : Valuation τ sig (Elt Ideal)) : FVec Ideal S2048x1000 .f32 :=
  Host.divf (res_main_v77 V) (broadcastInDim S2048x1000 ![0, 1] bcast_S2048x1_S2048x1000_0_1
    (broadcastInDim S2048x1 ![0] bcast_S2048_S2048x1_0
      (Host.reduceAdd (res_main_v77 V) (constant S_ .f32 0x00000000#32) reducesTo_S2048x1000_S2048_d1 h_S_)))

theorem result_eq (V : Valuation τ sig (Elt Ideal)) : result V = quot (shift3 (res_main_v70 V) (top3 (res_main_v70 V))) := rfl

theorem read_result (H : Holds V N) (hN : N.Graph) (n : Fin 2048) (o : Fin 1000) :
    result V (ix2 n o) = N.y n o := by
  rw [result_eq]
  exact read_soft _ (N.v2 n) n (read_v70 H hN n) o

end Cert.Proof.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Twin
public import proofs.«01_k».proof.Proof.Drawn
public import proofs.«01_k».proof.Proof.ReadC
public import proofs.«01_k».proof.Proof.RefTop
public import Idealize.ShloMosaic.Lib.Quiescent
public import Idealize.ShloMosaic.Adequacy
public import Idealize.ShloMosaic.Lib.Claim
public import Idealize.ShloMosaic.Init

/-!
The certificate: the frames of the kernel at both readings of the floats, that of the reference, and the equality
of the two results over the reals.
-/

@[expose] public section

set_option maxRecDepth 16384

noncomputable section

namespace Cert.Proof

open Idealize.ShloMosaic Idealize.SL.Sem Idealize.ShloMosaic.StableHlo

/-- The kernel over the reals: every execution ends, the arguments unchanged and every counter at zero. -/
theorem frame_ideal : Cert.quiescent_KernelIdeal := fun m ρ _ => Cert.KernelIdeal.Proof.run_args (F := Ideal) m ρ

/-- The reference ends with its arguments unchanged and every counter at zero. -/
theorem frame_reference : Cert.quiescent_ReferenceIdeal := fun m g _ =>
  (θ_run Cert.ReferenceIdeal.defs _ _).mono (fun r h => ⟨fun c => (h c).2, sem_eq_zero_of_no_sems (by decide) _⟩)
    (Cert.ReferenceIdeal.Value.run (F := Ideal) m g)

/-- The frame over the reals, under the precondition. -/
theorem frame_ideal_drawn : Cert.quiescent_KernelIdeal_pre_drawn := fun m ρ _ => Cert.KernelIdeal.Proof.run_args (F := Ideal) m ρ

/-- The reference's frame, under the precondition. -/
theorem frame_reference_drawn : Cert.quiescent_ReferenceIdeal_pre_drawn := fun m g _ => frame_reference m g True.intro

open Cert.KernelIdeal.Proof (Args)

/-- The kernel and the reference, from equal arguments that hold the precondition, end with equal results: entry
    `(n, o)` of either is the probability the network over the reals gives node `n` of class `o`. -/
theorem algebraic : Cert.algebraic_KernelIdeal_ReferenceIdeal_pre_drawn := fun m g m' g' hpre hagree => by
  have out : ∀ c, Ref.result (launchContents m' c) = (Cert.KernelIdeal.Proof.args m c).out := fun c => by
    have D := drawn_of_pre m hpre c
    obtain ⟨h0, h1, h2, h3, h4, h5, h6, h7, h8, h9, h10, h11, h12⟩ := hagree c
    have H : Ref.Holds (launchContents m' c) (Net.of (Cert.KernelIdeal.Proof.args m c)) :=
      ⟨fun _ _ => (congrFun h0 _).trans (congrFun (congrArg Args.x D.args) _),
        fun _ _ => (congrFun h1 _).trans (congrFun (congrArg Args.a D.args) _),
        fun _ _ => (congrFun h2 _).trans (congrFun (congrArg Args.lay D.args) _),
        fun _ _ _ => (congrFun h3 _).trans (congrFun (congrArg Args.k1 D.args) _),
        fun _ _ => (congrFun h4 _).trans (congrFun (congrArg Args.as1 D.args) _),
        fun _ _ => (congrFun h5 _).trans (congrFun (congrArg Args.an1 D.args) _),
        fun _ => (congrFun h6 _).trans (congrFun (congrArg Args.b1 D.args) _),
        fun _ _ => (congrFun h7 _).trans (congrFun (congrArg Args.wl D.args) _),
        fun _ => (congrFun h8 _).trans (congrFun (congrArg Args.bl D.args) _),
        fun _ _ => (congrFun h9 _).trans (congrFun (congrArg Args.k2 D.args) _),
        fun _ => (congrFun h10 _).trans (congrFun (congrArg Args.as2 D.args) _),
        fun _ => (congrFun h11 _).trans (congrFun (congrArg Args.an2 D.args) _),
        fun _ => (congrFun h12 _).trans (congrFun (congrArg Args.b2 D.args) _)⟩
    rw [congrArg Args.out D.args]
    funext j
    rw [eq_ix2 j]
    exact (Ref.read_result H D.graph (j 0) (j 1)).trans (Net.read_out D.graph (j 0) (j 1)).symm
  refine ⟨fun c => (Cert.KernelIdeal.Proof.args m c).out, ?_, ?_⟩
  · exact (θ_run Cert.KernelIdeal.defs _ _).mono (fun r h c => ⟨h.1 c, h.2.1 c⟩)
      (θ_run_and (Cert.KernelIdeal.Proof.run_out (F := Ideal) m g) (Cert.KernelIdeal.Proof.run_args (F := Ideal) m g))
  · exact (θ_run Cert.ReferenceIdeal.defs _ _).mono (fun r h c => ⟨(h c).1.trans (out c), (h c).2⟩)
      (Cert.ReferenceIdeal.Value.run (F := Ideal) m' g')

/-- Everything the certificate claims. -/
theorem claim : Cert.Claim := ⟨Cert.Kernel.Gen.facts, Cert.KernelIdeal.Gen.facts, Cert.ReferenceIdeal.Gen.facts,
  Cert.Pre_drawn.Gen.facts, frame_kernel, frame_ideal, frame_ideal_drawn, frame_reference, frame_reference_drawn, trivial, algebraic⟩

end Cert.Proof

end
